-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_InS (m : (ℓ : Loc Cert.InS.nD Cert.InS.τ Cert.InS.sig) → Buf (Elt Bits) ℓ) : Prop :=
  True

def Pre_InSIdeal (m : (ℓ : Loc Cert.InSIdeal.nD Cert.InSIdeal.τ Cert.InSIdeal.sig) → Buf (Elt Ideal) ℓ) : Prop :=
  True

def Pre_InSRefIdeal (m : (ℓ : Loc Cert.InSRefIdeal.nD Cert.InSRefIdeal.τ Cert.InSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7)
      ∧ r.2.mem ((c.tc : Thread Cert.Norm.nD Cert.Norm.τ).loc Cert.Norm.main_arg8) = m ((c.tc : Thread Cert.Norm.nD Cert.Norm.τ).loc Cert.Norm.main_arg8)
      ∧ r.2.mem ((c.tc : Thread Cert.Norm.nD Cert.Norm.τ).loc Cert.Norm.main_arg9) = m ((c.tc : Thread Cert.Norm.nD Cert.Norm.τ).loc Cert.Norm.main_arg9)
      ∧ r.2.mem ((c.tc : Thread Cert.Norm.nD Cert.Norm.τ).loc Cert.Norm.main_arg10) = m ((c.tc : Thread Cert.Norm.nD Cert.Norm.τ).loc Cert.Norm.main_arg10))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
      ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
      ∧ r.2.mem ((c.tc : Thread Cert.NormIdeal.nD Cert.NormIdeal.τ).loc Cert.NormIdeal.main_arg9) = m ((c.tc : Thread Cert.NormIdeal.nD Cert.NormIdeal.τ).loc Cert.NormIdeal.main_arg9)
      ∧ r.2.mem ((c.tc : Thread Cert.NormIdeal.nD Cert.NormIdeal.τ).loc Cert.NormIdeal.main_arg10) = m ((c.tc : Thread Cert.NormIdeal.nD Cert.NormIdeal.τ).loc Cert.NormIdeal.main_arg10))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7)
      ∧ r.2.mem ((c.tc : Thread Cert.NormRefIdeal.nD Cert.NormRefIdeal.τ).loc Cert.NormRefIdeal.main_arg8) = m ((c.tc : Thread Cert.NormRefIdeal.nD Cert.NormRefIdeal.τ).loc Cert.NormRefIdeal.main_arg8)
      ∧ r.2.mem ((c.tc : Thread Cert.NormRefIdeal.nD Cert.NormRefIdeal.τ).loc Cert.NormRefIdeal.main_arg9) = m ((c.tc : Thread Cert.NormRefIdeal.nD Cert.NormRefIdeal.τ).loc Cert.NormRefIdeal.main_arg9)
      ∧ r.2.mem ((c.tc : Thread Cert.NormRefIdeal.nD Cert.NormRefIdeal.τ).loc Cert.NormRefIdeal.main_arg10) = m ((c.tc : Thread Cert.NormRefIdeal.nD Cert.NormRefIdeal.τ).loc Cert.NormRefIdeal.main_arg10))
      ∧ r.2.sem = fun _ => 0)

def quiescent_InS [hInS : Cert.InS.Facts] : Prop :=
  ∀ (m : (ℓ : Loc Cert.InS.nD Cert.InS.τ Cert.InS.sig) → Buf (Elt Bits) ℓ) (g : Dev Cert.InS.nD → PrngReg), Pre_InS m →
    θ_run (Cert.InS.defs (F := Bits)) (onTc (τ := Cert.InS.τ) (Cert.InS.main (F := Bits))) ⟨m, fun _ => 0, g⟩ (fun r => (∀ c : Dev Cert.InS.nD,
      r.2.mem ((c.tc : Thread Cert.InS.nD Cert.InS.τ).loc Cert.InS.main_arg0) = m ((c.tc : Thread Cert.InS.nD Cert.InS.τ).loc Cert.InS.main_arg0)
      ∧ r.2.mem ((c.tc : Thread Cert.InS.nD Cert.InS.τ).loc Cert.InS.main_arg1) = m ((c.tc : Thread Cert.InS.nD Cert.InS.τ).loc Cert.InS.main_arg1))
      ∧ r.2.sem = fun _ => 0)

def quiescent_InSIdeal [hInSIdeal : Cert.InSIdeal.Facts] : Prop :=
  ∀ (m : (ℓ : Loc Cert.InSIdeal.nD Cert.InSIdeal.τ Cert.InSIdeal.sig) → Buf (Elt Ideal) ℓ) (g : Dev Cert.InSIdeal.nD → PrngReg), Pre_InSIdeal m →
    θ_run (Cert.InSIdeal.defs (F := Ideal)) (onTc (τ := Cert.InSIdeal.τ) (Cert.InSIdeal.main (F := Ideal))) ⟨m, fun _ => 0, g⟩ (fun r => (∀ c : Dev Cert.InSIdeal.nD,
      r.2.mem ((c.tc : Thread Cert.InSIdeal.nD Cert.InSIdeal.τ).loc Cert.InSIdeal.main_arg0) = m ((c.tc : Thread Cert.InSIdeal.nD Cert.InSIdeal.τ).loc Cert.InSIdeal.main_arg0)
      ∧ r.2.mem ((c.tc : Thread Cert.InSIdeal.nD Cert.InSIdeal.τ).loc Cert.InSIdeal.main_arg1) = m ((c.tc : Thread Cert.InSIdeal.nD Cert.InSIdeal.τ).loc Cert.InSIdeal.main_arg1))
      ∧ r.2.sem = fun _ => 0)

def quiescent_InSRefIdeal [hInSRefIdeal : Cert.InSRefIdeal.Facts] : Prop :=
  ∀ (m : (ℓ : Loc Cert.InSRefIdeal.nD Cert.InSRefIdeal.τ Cert.InSRefIdeal.sig) → Buf (Elt Ideal) ℓ) (g : Dev Cert.InSRefIdeal.nD → PrngReg), Pre_InSRefIdeal m →
    θ_run (Cert.InSRefIdeal.defs (F := Ideal)) (onTc (τ := Cert.InSRefIdeal.τ) (Cert.InSRefIdeal.main (F := Ideal))) ⟨m, fun _ => 0, g⟩ (fun r => (∀ c : Dev Cert.InSRefIdeal.nD,
      r.2.mem ((c.tc : Thread Cert.InSRefIdeal.nD Cert.InSRefIdeal.τ).loc Cert.InSRefIdeal.main_arg0) = m ((c.tc : Thread Cert.InSRefIdeal.nD Cert.InSRefIdeal.τ).loc Cert.InSRefIdeal.main_arg0)
      ∧ r.2.mem ((c.tc : Thread Cert.InSRefIdeal.nD Cert.InSRefIdeal.τ).loc Cert.InSRefIdeal.main_arg1) = m ((c.tc : Thread Cert.InSRefIdeal.nD Cert.InSRefIdeal.τ).loc Cert.InSRefIdeal.main_arg1))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v35_0) i = v0 c i)
          ∧ (∀ i : (⟨3, ![4, 1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v35_1) i = v1 c i)
          ∧ (∀ i : (⟨3, ![4, 8, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 i = 1#1 → r.2.mem ((c.tc : Thread Cert.KernelIdeal.nD Cert.KernelIdeal.τ).loc Cert.KernelIdeal.main_v35_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 2048, 4096]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v84) i = v0 c i)
          ∧ (∀ i : (⟨3, ![4, 1, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v85) i = v1 c i)
          ∧ (∀ i : (⟨3, ![4, 8, 1024]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 i = 1#1 → r.2.mem ((c.tc : Thread Cert.ReferenceIdeal.nD Cert.ReferenceIdeal.τ).loc Cert.ReferenceIdeal.main_v86) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)) →
    ∃ (v0 : (c : Dev Cert.PostIdeal.nD) → Buf (Elt Ideal) ((c.tc : Thread Cert.PostIdeal.nD Cert.PostIdeal.τ).loc Cert.PostIdeal.main_v14)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v14) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v48) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v3)) (v1 : (c : Dev Cert.InIdeal.nD) → Buf (Elt Ideal) ((c.tc : Thread Cert.InIdeal.nD Cert.InIdeal.τ).loc Cert.InIdeal.main_v6)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v3) = v0 c
          ∧ r.2.mem ((c.tc : Thread Cert.InIdeal.nD Cert.InIdeal.τ).loc Cert.InIdeal.main_v6) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_v4) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)
      ∧ m' ((c.tc : Thread Cert.NormRefIdeal.nD Cert.NormRefIdeal.τ).loc Cert.NormRefIdeal.main_arg8) = m ((c.tc : Thread Cert.NormIdeal.nD Cert.NormIdeal.τ).loc Cert.NormIdeal.main_arg8)
      ∧ m' ((c.tc : Thread Cert.NormRefIdeal.nD Cert.NormRefIdeal.τ).loc Cert.NormRefIdeal.main_arg9) = m ((c.tc : Thread Cert.NormIdeal.nD Cert.NormIdeal.τ).loc Cert.NormIdeal.main_arg9)
      ∧ m' ((c.tc : Thread Cert.NormRefIdeal.nD Cert.NormRefIdeal.τ).loc Cert.NormRefIdeal.main_arg10) = m ((c.tc : Thread Cert.NormIdeal.nD Cert.NormIdeal.τ).loc Cert.NormIdeal.main_arg10)) →
    ∃ (v0 : (c : Dev Cert.NormIdeal.nD) → Buf (Elt Ideal) ((c.tc : Thread Cert.NormIdeal.nD Cert.NormIdeal.τ).loc Cert.NormIdeal.main_v22_0)) (v1 : (c : Dev Cert.NormIdeal.nD) → Buf (Elt Ideal) ((c.tc : Thread Cert.NormIdeal.nD Cert.NormIdeal.τ).loc Cert.NormIdeal.main_v22_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v22_0) = v0 c
          ∧ r.2.mem ((c.tc : Thread Cert.NormIdeal.nD Cert.NormIdeal.τ).loc Cert.NormIdeal.main_v22_3) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7)
          ∧ r.2.mem ((c.tc : Thread Cert.NormIdeal.nD Cert.NormIdeal.τ).loc Cert.NormIdeal.main_arg8) = m ((c.tc : Thread Cert.NormIdeal.nD Cert.NormIdeal.τ).loc Cert.NormIdeal.main_arg8)
          ∧ r.2.mem ((c.tc : Thread Cert.NormIdeal.nD Cert.NormIdeal.τ).loc Cert.NormIdeal.main_arg9) = m ((c.tc : Thread Cert.NormIdeal.nD Cert.NormIdeal.τ).loc Cert.NormIdeal.main_arg9)
          ∧ r.2.mem ((c.tc : Thread Cert.NormIdeal.nD Cert.NormIdeal.τ).loc Cert.NormIdeal.main_arg10) = m ((c.tc : Thread Cert.NormIdeal.nD Cert.NormIdeal.τ).loc Cert.NormIdeal.main_arg10))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_v16) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7)
          ∧ r.2.mem ((c.tc : Thread Cert.NormRefIdeal.nD Cert.NormRefIdeal.τ).loc Cert.NormRefIdeal.main_arg8) = m' ((c.tc : Thread Cert.NormRefIdeal.nD Cert.NormRefIdeal.τ).loc Cert.NormRefIdeal.main_arg8)
          ∧ r.2.mem ((c.tc : Thread Cert.NormRefIdeal.nD Cert.NormRefIdeal.τ).loc Cert.NormRefIdeal.main_arg9) = m' ((c.tc : Thread Cert.NormRefIdeal.nD Cert.NormRefIdeal.τ).loc Cert.NormRefIdeal.main_arg9)
          ∧ r.2.mem ((c.tc : Thread Cert.NormRefIdeal.nD Cert.NormRefIdeal.τ).loc Cert.NormRefIdeal.main_arg10) = m' ((c.tc : Thread Cert.NormRefIdeal.nD Cert.NormRefIdeal.τ).loc Cert.NormRefIdeal.main_arg10))

def preserves_InS_InSIdeal : Prop :=
  True

def algebraic_InSIdeal_InSRefIdeal [hInSIdeal : Cert.InSIdeal.Facts] [hInSRefIdeal : Cert.InSRefIdeal.Facts] : Prop :=
  ∀ (m : (ℓ : Loc Cert.InSIdeal.nD Cert.InSIdeal.τ Cert.InSIdeal.sig) → Buf (Elt Ideal) ℓ) (g : Dev Cert.InSIdeal.nD → PrngReg)
    (m' : (ℓ : Loc Cert.InSRefIdeal.nD Cert.InSRefIdeal.τ Cert.InSRefIdeal.sig) → Buf (Elt Ideal) ℓ) (g' : Dev Cert.InSRefIdeal.nD → PrngReg), Pre_InSIdeal m →
    (∀ c : Dev Cert.InSIdeal.nD,
      m' ((c.tc : Thread Cert.InSRefIdeal.nD Cert.InSRefIdeal.τ).loc Cert.InSRefIdeal.main_arg0) = m ((c.tc : Thread Cert.InSIdeal.nD Cert.InSIdeal.τ).loc Cert.InSIdeal.main_arg0)
      ∧ m' ((c.tc : Thread Cert.InSRefIdeal.nD Cert.InSRefIdeal.τ).loc Cert.InSRefIdeal.main_arg1) = m ((c.tc : Thread Cert.InSIdeal.nD Cert.InSIdeal.τ).loc Cert.InSIdeal.main_arg1)) →
    ∃ (v0 : (c : Dev Cert.InSIdeal.nD) → Buf (Elt Ideal) ((c.tc : Thread Cert.InSIdeal.nD Cert.InSIdeal.τ).loc Cert.InSIdeal.main_v6)) (v1 : (c : Dev Cert.InSIdeal.nD) → Buf (Elt Ideal) ((c.tc : Thread Cert.InSIdeal.nD Cert.InSIdeal.τ).loc Cert.InSIdeal.main_v8)),
      θ_run (Cert.InSIdeal.defs (F := Ideal)) (onTc (τ := Cert.InSIdeal.τ) (Cert.InSIdeal.main (F := Ideal))) ⟨m, fun _ => 0, g⟩ (fun r => ∀ c : Dev Cert.InSIdeal.nD,
          r.2.mem ((c.tc : Thread Cert.InSIdeal.nD Cert.InSIdeal.τ).loc Cert.InSIdeal.main_v6) = v0 c
          ∧ r.2.mem ((c.tc : Thread Cert.InSIdeal.nD Cert.InSIdeal.τ).loc Cert.InSIdeal.main_v8) = v1 c
          ∧ r.2.mem ((c.tc : Thread Cert.InSIdeal.nD Cert.InSIdeal.τ).loc Cert.InSIdeal.main_arg0) = m ((c.tc : Thread Cert.InSIdeal.nD Cert.InSIdeal.τ).loc Cert.InSIdeal.main_arg0)
          ∧ r.2.mem ((c.tc : Thread Cert.InSIdeal.nD Cert.InSIdeal.τ).loc Cert.InSIdeal.main_arg1) = m ((c.tc : Thread Cert.InSIdeal.nD Cert.InSIdeal.τ).loc Cert.InSIdeal.main_arg1))
      ∧ θ_run (Cert.InSRefIdeal.defs (F := Ideal)) (onTc (τ := Cert.InSRefIdeal.τ) (Cert.InSRefIdeal.main (F := Ideal))) ⟨m', fun _ => 0, g'⟩ (fun r => ∀ c : Dev Cert.InSRefIdeal.nD,
          r.2.mem ((c.tc : Thread Cert.InSRefIdeal.nD Cert.InSRefIdeal.τ).loc Cert.InSRefIdeal.main_v0) = v0 c
          ∧ r.2.mem ((c.tc : Thread Cert.InSRefIdeal.nD Cert.InSRefIdeal.τ).loc Cert.InSRefIdeal.main_v3) = v1 c
          ∧ r.2.mem ((c.tc : Thread Cert.InSRefIdeal.nD Cert.InSRefIdeal.τ).loc Cert.InSRefIdeal.main_arg0) = m' ((c.tc : Thread Cert.InSRefIdeal.nD Cert.InSRefIdeal.τ).loc Cert.InSRefIdeal.main_arg0)
          ∧ r.2.mem ((c.tc : Thread Cert.InSRefIdeal.nD Cert.InSRefIdeal.τ).loc Cert.InSRefIdeal.main_arg1) = m' ((c.tc : Thread Cert.InSRefIdeal.nD Cert.InSRefIdeal.τ).loc Cert.InSRefIdeal.main_arg1))

def Claim : Prop :=
  ∃ (hKernel : Cert.Kernel.Facts) (hKernelIdeal : Cert.KernelIdeal.Facts) (hReferenceIdeal : Cert.ReferenceIdeal.Facts) (hPost : Cert.Post.Facts) (hPostIdeal : Cert.PostIdeal.Facts) (hPostRefIdeal : Cert.PostRefIdeal.Facts) (hIn : Cert.In.Facts) (hInIdeal : Cert.InIdeal.Facts) (hInRefIdeal : Cert.InRefIdeal.Facts) (hNorm : Cert.Norm.Facts) (hNormIdeal : Cert.NormIdeal.Facts) (hNormRefIdeal : Cert.NormRefIdeal.Facts) (hInS : Cert.InS.Facts) (hInSIdeal : Cert.InSIdeal.Facts) (hInSRefIdeal : Cert.InSRefIdeal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ quiescent_Post (hPost := hPost)
    ∧ quiescent_PostIdeal (hPostIdeal := hPostIdeal)
    ∧ quiescent_PostRefIdeal (hPostRefIdeal := hPostRefIdeal)
    ∧ quiescent_In (hIn := hIn)
    ∧ quiescent_InIdeal (hInIdeal := hInIdeal)
    ∧ quiescent_InRefIdeal (hInRefIdeal := hInRefIdeal)
    ∧ quiescent_Norm (hNorm := hNorm)
    ∧ quiescent_NormIdeal (hNormIdeal := hNormIdeal)
    ∧ quiescent_NormRefIdeal (hNormRefIdeal := hNormRefIdeal)
    ∧ quiescent_InS (hInS := hInS)
    ∧ quiescent_InSIdeal (hInSIdeal := hInSIdeal)
    ∧ quiescent_InSRefIdeal (hInSRefIdeal := hInSRefIdeal)
    ∧ preserves_Kernel_KernelIdeal
    ∧ algebraic_KernelIdeal_ReferenceIdeal_on_written (hKernelIdeal := hKernelIdeal) (hReferenceIdeal := hReferenceIdeal) (hOn_written := hOn_written)
    ∧ preserves_Post_PostIdeal
    ∧ algebraic_PostIdeal_PostRefIdeal (hPostIdeal := hPostIdeal) (hPostRefIdeal := hPostRefIdeal)
    ∧ preserves_In_InIdeal
    ∧ algebraic_InIdeal_InRefIdeal (hInIdeal := hInIdeal) (hInRefIdeal := hInRefIdeal)
    ∧ preserves_Norm_NormIdeal
    ∧ algebraic_NormIdeal_NormRefIdeal (hNormIdeal := hNormIdeal) (hNormRefIdeal := hNormRefIdeal)
    ∧ preserves_InS_InSIdeal
    ∧ algebraic_InSIdeal_InSRefIdeal (hInSIdeal := hInSIdeal) (hInSRefIdeal := hInSRefIdeal)
-- ==== On_written.lean ====
abbrev S4x2048x14336 : Shape := ⟨3, ![4, 2048, 14336]⟩
abbrev S4x1024 : Shape := ⟨2, ![4, 1024]⟩
abbrev S4x3x1024 : Shape := ⟨3, ![4, 3, 1024]⟩
abbrev S1024 : Shape := ⟨1, ![1024]⟩
abbrev S16x64x64 : Shape := ⟨3, ![16, 64, 64]⟩
abbrev S4x2048x4096 : Shape := ⟨3, ![4, 2048, 4096]⟩
abbrev S_ : Shape := ⟨0, ![]⟩
abbrev S4x1x1024 : Shape := ⟨3, ![4, 1, 1024]⟩
abbrev S4x8x1024 : Shape := ⟨3, ![4, 8, 1024]⟩

class Facts : Prop where
  bcast_S_S4x2048x4096 : S_.BroadcastsInDim S4x2048x4096 (![] : Fin 0 → Fin S4x2048x4096.rank)
  bcast_S_S4x1x1024 : S_.BroadcastsInDim S4x1x1024 (![] : Fin 0 → Fin S4x1x1024.rank)
  bcast_S_S4x8x1024 : S_.BroadcastsInDim S4x8x1024 (![] : Fin 0 → Fin S4x8x1024.rank)

variable [Facts]

def fn {F : FTy → Type} [FloatOps F] (main_arg0 : FVec F S4x2048x14336 .f32) (main_arg1 : FVec F S4x1024 .f32) (main_arg2 : FVec F S4x3x1024 .f32) (main_arg3 : FVec F S4x1024 .f32) (main_arg4 : FVec F S1024 .f32) (main_arg5 : FVec F S16x64x64 .f32) (main_arg6 : FVec F S1024 .f32) (main_arg7 : FVec F S16x64x64 .f32) (main_arg8 : FVec F S1024 .f32) (main_arg9 : FVec F S1024 .f32) : IVec S4x2048x4096 1 × IVec S4x1x1024 1 × IVec S4x8x1024 1 :=
  let main_v0 : IVec S4x2048x4096 32 := iotaInDim S4x2048x4096 32 2
  let main_c : IVec S_ 32 := constantI S_ 32 1024#32
  let main_v1 : IVec S4x2048x4096 32 := broadcastInDim S4x2048x4096 ![] bcast_S_S4x2048x4096 main_c
  let main_v2 : IVec S4x2048x4096 1 := cmpi .slt main_v0 main_v1
  let main_c_0 : IVec S_ 1 := constantI S_ 1 1#1
  let main_v3 : IVec S4x1x1024 1 := broadcastInDim S4x1x1024 ![] bcast_S_S4x1x1024 main_c_0
  let main_v4 : IVec S4x8x1024 32 := iotaInDim S4x8x1024 32 1
  let main_c_1 : IVec S_ 32 := constantI S_ 32 5#32
  let main_v5 : IVec S4x8x1024 32 := broadcastInDim S4x8x1024 ![] bcast_S_S4x8x1024 main_c_1
  let main_v6 : IVec S4x8x1024 1 := cmpi .sge main_v4 main_v5
  (main_v2, main_v3, main_v6)
-- ==== Kernel.lean ====
abbrev S4x2048x14336 : Shape := ⟨3, ![4, 2048, 14336]⟩
abbrev S4x1024 : Shape := ⟨2, ![4, 1024]⟩
abbrev S4x3x1024 : Shape := ⟨3, ![4, 3, 1024]⟩
abbrev S1024 : Shape := ⟨1, ![1024]⟩
abbrev S16x64x64 : Shape := ⟨3, ![16, 64, 64]⟩
abbrev S_ : Shape := ⟨0, ![]⟩
abbrev S4x8x1024 : Shape := ⟨3, ![4, 8, 1024]⟩
abbrev S4x1x1024 : Shape := ⟨3, ![4, 1, 1024]⟩
abbrev S1x4x1024 : Shape := ⟨3, ![1, 4, 1024]⟩
abbrev S1x1x1024 : Shape := ⟨3, ![1, 1, 1024]⟩
abbrev S8x2x64x64 : Shape := ⟨4, ![8, 2, 64, 64]⟩
abbrev S2x2 : Shape := ⟨2, ![2, 2]⟩
abbrev S8x2x64x1x64 : Shape := ⟨5, ![8, 2, 64, 1, 64]⟩
abbrev S1x2x1x2x1 : Shape := ⟨5, ![1, 2, 1, 2, 1]⟩
abbrev S8x2x64x2x64 : Shape := ⟨5, ![8, 2, 64, 2, 64]⟩
abbrev S8x128x128 : Shape := ⟨3, ![8, 128, 128]⟩
abbrev S1x1024 : Shape := ⟨2, ![1, 1024]⟩
abbrev S4x2048x4096 : Shape := ⟨3, ![4, 2048, 4096]⟩
abbrev S1x128x1024 : Shape := ⟨3, ![1, 128, 1024]⟩
abbrev S1x8x1024 : Shape := ⟨3, ![1, 8, 1024]⟩
abbrev S1x136x1024 : Shape := ⟨3, ![1, 136, 1024]⟩
abbrev S128x1024 : Shape := ⟨2, ![128, 1024]⟩
abbrev S128x128 : Shape := ⟨2, ![128, 128]⟩
abbrev S1x128x128 : Shape := ⟨3, ![1, 128, 128]⟩
abbrev S16x8x1024 : Shape := ⟨3, ![16, 8, 1024]⟩
abbrev S1x16x8x1024 : Shape := ⟨4, ![1, 16, 8, 1024]⟩
abbrev S1x16x1x1024 : Shape := ⟨4, ![1, 16, 1, 1024]⟩
abbrev S1x1x1x1024 : Shape := ⟨4, ![1, 1, 1, 1024]⟩
abbrev S16x1x1024 : Shape := ⟨3, ![16, 1, 1024]⟩

abbrev nBuf : Space → Nat
  | .hbm => 52
  | .vmem => 23
  | .smem => 0
  | _ => 0

abbrev bufTy : (tb : Table) → Fin (tcTables nBuf tb) → BufTy
  | .hbm, ⟨0, _⟩ => ⟨S4x2048x14336, .f32⟩
  | .hbm, ⟨1, _⟩ => ⟨S4x1024, .f32⟩
  | .hbm, ⟨2, _⟩ => ⟨S4x3x1024, .f32⟩
  | .hbm, ⟨3, _⟩ => ⟨S4x1024, .f32⟩
  | .hbm, ⟨4, _⟩ => ⟨S1024, .f32⟩
  | .hbm, ⟨5, _⟩ => ⟨S16x64x64, .f32⟩
  | .hbm, ⟨6, _⟩ => ⟨S1024, .f32⟩
  | .hbm, ⟨7, _⟩ => ⟨S16x64x64, .f32⟩
  | .hbm, ⟨8, _⟩ => ⟨S1024, .f32⟩
  | .hbm, ⟨9, _⟩ => ⟨S1024, .f32⟩
  | .hbm, ⟨10, _⟩ => ⟨S_, .i32⟩
  | .hbm, ⟨11, _⟩ => ⟨S_, .f32⟩
  | .hbm, ⟨12, _⟩ => ⟨S4x8x1024, .f32⟩
  | .hbm, ⟨13, _⟩ => ⟨S4x1x1024, .f32⟩
  | .hbm, ⟨14, _⟩ => ⟨S1x4x1024, .f32⟩
  | .hbm, ⟨15, _⟩ => ⟨S1x1x1024, .f32⟩
  | .hbm, ⟨16, _⟩ => ⟨S8x2x64x64, .f32⟩
  | .hbm, ⟨17, _⟩ => ⟨S2x2, .i32⟩
  | .hbm, ⟨18, _⟩ => ⟨S2x2, .i32⟩
  | .hbm, ⟨19, _⟩ => ⟨S_, .i32⟩
  | .hbm, ⟨20, _⟩ => ⟨S2x2, .i32⟩
  | .hbm, ⟨21, _⟩ => ⟨S2x2, .i32⟩
  | .hbm, ⟨22, _⟩ => ⟨S2x2, .i1⟩
  | .hbm, ⟨23, _⟩ => ⟨S2x2, .f32⟩
  | .hbm, ⟨24, _⟩ => ⟨S8x2x64x1x64, .f32⟩
  | .hbm, ⟨25, _⟩ => ⟨S1x2x1x2x1, .f32⟩
  | .hbm, ⟨26, _⟩ => ⟨S8x2x64x2x64, .f32⟩
  | .hbm, ⟨27, _⟩ => ⟨S8x2x64x2x64, .f32⟩
  | .hbm, ⟨28, _⟩ => ⟨S8x2x64x2x64, .f32⟩
  | .hbm, ⟨29, _⟩ => ⟨S8x128x128, .f32⟩
  | .hbm, ⟨30, _⟩ => ⟨S8x128x128, .bf16⟩
  | .hbm, ⟨31, _⟩ => ⟨S1x1024, .f32⟩
  | .hbm, ⟨32, _⟩ => ⟨S8x2x64x64, .f32⟩
  | .hbm, ⟨33, _⟩ => ⟨S2x2, .i32⟩
  | .hbm, ⟨34, _⟩ => ⟨S2x2, .i32⟩
  | .hbm, ⟨35, _⟩ => ⟨S_, .i32⟩
  | .hbm, ⟨36, _⟩ => ⟨S2x2, .i32⟩
  | .hbm, ⟨37, _⟩ => ⟨S2x2, .i32⟩
  | .hbm, ⟨38, _⟩ => ⟨S2x2, .i1⟩
  | .hbm, ⟨39, _⟩ => ⟨S2x2, .f32⟩
  | .hbm, ⟨40, _⟩ => ⟨S8x2x64x1x64, .f32⟩
  | .hbm, ⟨41, _⟩ => ⟨S1x2x1x2x1, .f32⟩
  | .hbm, ⟨42, _⟩ => ⟨S8x2x64x2x64, .f32⟩
  | .hbm, ⟨43, _⟩ => ⟨S8x2x64x2x64, .f32⟩
  | .hbm, ⟨44, _⟩ => ⟨S8x2x64x2x64, .f32⟩
  | .hbm, ⟨45, _⟩ => ⟨S8x128x128, .f32⟩
  | .hbm, ⟨46, _⟩ => ⟨S8x128x128, .bf16⟩
  | .hbm, ⟨47, _⟩ => ⟨S1x1024, .f32⟩
  | .hbm, ⟨48, _⟩ => ⟨S1x1024, .f32⟩
  | .hbm, ⟨49, _⟩ => ⟨S4x2048x4096, .bf16⟩
  | .hbm, ⟨50, _⟩ => ⟨S4x1x1024, .f32⟩
  | .hbm, ⟨51, _⟩ => ⟨S4x8x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x4x1024, .f32⟩
  | .local _ .vmem, ⟨9, _⟩ => ⟨S1x1x1024, .f32⟩
  | .local _ .vmem, ⟨10, _⟩ => ⟨S8x128x128, .bf16⟩
  | .local _ .vmem, ⟨11, _⟩ => ⟨S1x1024, .f32⟩
  | .local _ .vmem, ⟨12, _⟩ => ⟨S8x128x128, .bf16⟩
  | .local _ .vmem, ⟨13, _⟩ => ⟨S1x1024, .f32⟩
  | .local _ .vmem, ⟨14, _⟩ => ⟨S1x1024, .f32⟩
  | .local _ .vmem, ⟨15, _⟩ => ⟨S1x128x1024, .bf16⟩
  | .local _ .vmem, ⟨16, _⟩ => ⟨S1x128x1024, .bf16⟩
  | .local _ .vmem, ⟨17, _⟩ => ⟨S1x1x1024, .f32⟩
  | .local _ .vmem, ⟨18, _⟩ => ⟨S1x1x1024, .f32⟩
  | .local _ .vmem, ⟨19, _⟩ => ⟨S1x8x1024, .f32⟩
  | .local _ .vmem, ⟨20, _⟩ => ⟨S1x8x1024, .f32⟩
  | .local _ .vmem, ⟨21, _⟩ => ⟨S1x1x1024, .f32⟩
  | .local _ .vmem, ⟨22, _⟩ => ⟨S1x8x1024, .f32⟩
  | _, _ => ⟨S4x2048x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v318 : BitVec 1 := Scalar.cmpi .eq arg1 c15_i32
  let v319 : BitVec 32 := Scalar.extui v318
  let c0_i32_118 : BitVec 32 := 0#32
  let v320 : BitVec 1 := Scalar.cmpi .ne v319 c0_i32_118
  v320

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x8x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4x2048x14336 : Shape := ⟨3, ![4, 2048, 14336]⟩
abbrev S4x1024 : Shape := ⟨2, ![4, 1024]⟩
abbrev S4x3x1024 : Shape := ⟨3, ![4, 3, 1024]⟩
abbrev S1024 : Shape := ⟨1, ![1024]⟩
abbrev S16x64x64 : Shape := ⟨3, ![16, 64, 64]⟩
abbrev S4x2048x1024 : Shape := ⟨3, ![4, 2048, 1024]⟩
abbrev S4x2051x1024 : Shape := ⟨3, ![4, 2051, 1024]⟩
abbrev S1x1024 : Shape := ⟨2, ![1, 1024]⟩
abbrev S1x1x1024 : Shape := ⟨3, ![1, 1, 1024]⟩
abbrev S4x2048x16x64 : Shape := ⟨4, ![4, 2048, 16, 64]⟩
abbrev S16x64x4x2048 : Shape := ⟨4, ![16, 64, 4, 2048]⟩
abbrev S_ : Shape := ⟨0, ![]⟩
abbrev S2048x4x1024 : Shape := ⟨3, ![2048, 4, 1024]⟩
abbrev S1x4x1024 : Shape := ⟨3, ![1, 4, 1024]⟩
abbrev S4x2048x4096 : Shape := ⟨3, ![4, 2048, 4096]⟩
abbrev S4x1x1024 : Shape := ⟨3, ![4, 1, 1024]⟩
abbrev S4x8x1024 : Shape := ⟨3, ![4, 8, 1024]⟩

abbrev nBuf : Space → Nat
  | .hbm => 152
  | .vmem => 0
  | .smem => 0
  | _ => 0

abbrev hbmTy0_0 (i : Nat) : BufTy := match i % 128 with
  | 0 => ⟨S4x2048x14336, .f32⟩
  | 1 => ⟨S4x1024, .f32⟩
  | 2 => ⟨S4x3x1024, .f32⟩
  | 3 => ⟨S4x1024, .f32⟩
  | 4 => ⟨S1024, .f32⟩
  | 5 => ⟨S16x64x64, .f32⟩
  | 6 => ⟨S1024, .f32⟩
  | 7 => ⟨S16x64x64, .f32⟩
  | 8 => ⟨S1024, .f32⟩
  | 9 => ⟨S1024, .f32⟩
  | 10 => ⟨S4x2048x1024, .f32⟩
  | 11 => ⟨S4x2051x1024, .f32⟩
  | 12 => ⟨S4x2048x1024, .f32⟩
  | 13 => ⟨S1x1024, .f32⟩
  | 14 => ⟨S1024, .f32⟩
  | 15 => ⟨S1x1x1024, .f32⟩
  | 16 => ⟨S4x2048x1024, .f32⟩
  | 17 => ⟨S4x2048x1024, .f32⟩
  | 18 => ⟨S1x1x1024, .f32⟩
  | 19 => ⟨S4x2048x1024, .f32⟩
  | 20 => ⟨S4x2048x1024, .f32⟩
  | 21 => ⟨S4x2048x1024, .f32⟩
  | 22 => ⟨S1x1024, .f32⟩
  | 23 => ⟨S1024, .f32⟩
  | 24 => ⟨S1x1x1024, .f32⟩
  | 25 => ⟨S4x2048x1024, .f32⟩
  | 26 => ⟨S4x2048x1024, .f32⟩
  | 27 => ⟨S4x2048x1024, .f32⟩
  | 28 => ⟨S4x2048x1024, .f32⟩
  | 29 => ⟨S1x1024, .f32⟩
  | 30 => ⟨S1024, .f32⟩
  | 31 => ⟨S1x1x1024, .f32⟩
  | 32 => ⟨S4x2048x1024, .f32⟩
  | 33 => ⟨S4x2048x1024, .f32⟩
  | 34 => ⟨S4x2048x1024, .f32⟩
  | 35 => ⟨S4x2048x1024, .f32⟩
  | 36 => ⟨S1x1024, .f32⟩
  | 37 => ⟨S1024, .f32⟩
  | 38 => ⟨S1x1x1024, .f32⟩
  | 39 => ⟨S4x2048x1024, .f32⟩
  | 40 => ⟨S4x2048x1024, .f32⟩
  | 41 => ⟨S4x2048x1024, .f32⟩
  | 42 => ⟨S4x2048x16x64, .f32⟩
  | 43 => ⟨S16x64x4x2048, .f32⟩
  | 44 => ⟨S4x2048x16x64, .f32⟩
  | 45 => ⟨S4x2048x1024, .f32⟩
  | 46 => ⟨S1x1x1024, .f32⟩
  | 47 => ⟨S4x2048x1024, .f32⟩
  | 48 => ⟨S4x2048x1024, .f32⟩
  | 49 => ⟨S4x2048x1024, .f32⟩
  | 50 => ⟨S4x2048x1024, .f32⟩
  | 51 => ⟨S_, .f32⟩
  | 52 => ⟨S4x2048x1024, .f32⟩
  | 53 => ⟨S4x2048x1024, .f32⟩
  | 54 => ⟨S_, .f32⟩
  | 55 => ⟨S4x2048x1024, .f32⟩
  | 56 => ⟨S4x2048x1024, .f32⟩
  | 57 => ⟨S16x64x4x2048, .f32⟩
  | 58 => ⟨S4x2048x16x64, .f32⟩
  | 59 => ⟨S4x2048x1024, .f32⟩
  | 60 => ⟨S1x1x1024, .f32⟩
  | 61 => ⟨S4x2048x1024, .f32⟩
  | 62 => ⟨S4x2048x1024, .f32⟩
  | 63 => ⟨S4x2048x1024, .f32⟩
  | 64 => ⟨S4x2048x1024, .f32⟩
  | 65 => ⟨S_, .f32⟩
  | 66 => ⟨S4x2048x1024, .f32⟩
  | 67 => ⟨S4x2048x1024, .f32⟩
  | 68 => ⟨S_, .f32⟩
  | 69 => ⟨S4x2048x1024, .f32⟩
  | 70 => ⟨S4x2048x1024, .f32⟩
  | 71 => ⟨S_, .f32⟩
  | 72 => ⟨S4x2048x1024, .f32⟩
  | 73 => ⟨S4x2048x1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S1024, .f32⟩
  | 80 => ⟨S1024, .i1⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1x1x1024, .f32⟩
  | 90 => ⟨S4x2048x1024, .f32⟩
  | 91 => ⟨S4x2048x1024, .f32⟩
  | 92 => ⟨S4x2048x1024, .f32⟩
  | 93 => ⟨S_, .f32⟩
  | 94 => ⟨S4x2048x1024, .f32⟩
  | 95 => ⟨S4x2048x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S2048x4x1024, .f32⟩
  | 102 => ⟨S2048x4x1024, .f32⟩
  | 103 => ⟨S_, .f32⟩
  | 104 => ⟨S2048x4x1024, .f32⟩
  | 105 => ⟨S_, .i32⟩
  | 106 => ⟨S2048x4x1024, .f32⟩
  | 107 => ⟨S2048x4x1024, .f32⟩
  | 108 => ⟨S_, .i32⟩
  | 109 => ⟨S4x1024, .f32⟩
  | 110 => ⟨S2048x4x1024, .f32⟩
  | 111 => ⟨S_, .i32⟩
  | 112 => ⟨S_, .i1⟩
  | 113 => ⟨S_, .i32⟩
  | 114 => ⟨S_, .i32⟩
  | 115 => ⟨S1x4x1024, .f32⟩
  | 116 => ⟨S4x1024, .f32⟩
  | 117 => ⟨S_, .i32⟩
  | 118 => ⟨S_, .i32⟩
  | 119 => ⟨S1x4x1024, .f32⟩
  | 120 => ⟨S4x1024, .f32⟩
  | 121 => ⟨S4x1024, .f32⟩
  | 122 => ⟨S4x1024, .f32⟩
  | 123 => ⟨S1x4x1024, .f32⟩
  | 124 => ⟨S_, .i32⟩
  | 125 => ⟨S_, .i32⟩
  | 126 => ⟨S2048x4x1024, .f32⟩
  | 127 => ⟨S_, .i32⟩
  | _ => ⟨S4x2048x14336, .f32⟩

abbrev hbmTy0_1 (i : Nat) : BufTy := match i % 128 with
  | 0 => ⟨S_, .i32⟩
  | 1 => ⟨S4x2048x1024, .f32⟩
  | 2 => ⟨S4x2048x1024, .f32⟩
  | 3 => ⟨S4x2048x1024, .f32⟩
  | 4 => ⟨S4x2048x1024, .f32⟩
  | 5 => ⟨S_, .f32⟩
  | 6 => ⟨S4x2048x1024, .f32⟩
  | 7 => ⟨S4x2048x1024, .f32⟩
  | 8 => ⟨S_, .f32⟩
  | 9 => ⟨S4x2048x1024, .f32⟩
  | 10 => ⟨S4x2048x1024, .f32⟩
  | 11 => ⟨S4x2048x1024, .f32⟩
  | 12 => ⟨S4x2048x1024, .f32⟩
  | 13 => ⟨S4x2048x1024, .f32⟩
  | 14 => ⟨S4x2051x1024, .f32⟩
  | 15 => ⟨S4x3x1024, .f32⟩
  | 16 => ⟨S_, .i32⟩
  | 17 => ⟨S_, .f32⟩
  | 18 => ⟨S4x2048x4096, .f32⟩
  | 19 => ⟨S4x2048x4096, .bf16⟩
  | 20 => ⟨S4x1x1024, .f32⟩
  | 21 => ⟨S_, .i32⟩
  | 22 => ⟨S_, .f32⟩
  | 23 => ⟨S4x8x1024, .f32⟩
  | _ => ⟨S4x2048x14336, .f32⟩

abbrev hbmTy (i : Nat) : BufTy := match i / 128 with
  | 0 => hbmTy0_0 i
  | 1 => hbmTy0_1 i
  | _ => ⟨S4x2048x14336, .f32⟩

abbrev bufTy : (tb : Table) → Fin (tcTables nBuf tb) → BufTy
  | .hbm, ⟨i, _⟩ => hbmTy i
  | _, _ => ⟨S4x2048x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst : Ref sig .tc := ⟨.hbm, 51, rfl⟩
abbrev main_v41 : Ref sig .tc := ⟨.hbm, 52, rfl⟩
abbrev main_v42 : Ref sig .tc := ⟨.hbm, 53, rfl⟩
abbrev main_cst_0 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_1 : Ref sig .tc := ⟨.hbm, 65, rfl⟩
abbrev main_v53 : Ref sig .tc := ⟨.hbm, 66, rfl⟩
abbrev main_v54 : Ref sig .tc := ⟨.hbm, 67, rfl⟩
abbrev main_cst_2 : Ref sig .tc := ⟨.hbm, 68, rfl⟩
abbrev main_v55 : Ref sig .tc := ⟨.hbm, 69, rfl⟩
abbrev main_v56 : Ref sig .tc := ⟨.hbm, 70, rfl⟩
abbrev main_cst_3 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_4 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_5 : Ref sig .tc := ⟨.hbm, 103, rfl⟩
abbrev main_v74 : Ref sig .tc := ⟨.hbm, 104, rfl⟩
abbrev main_c : Ref sig .tc := ⟨.hbm, 105, rfl⟩
abbrev main_v75_0 : Ref sig .tc := ⟨.hbm, 106, rfl⟩
abbrev main_v75_1 : Ref sig .tc := ⟨.hbm, 107, rfl⟩
abbrev main_v75_2 : Ref sig .tc := ⟨.hbm, 108, rfl⟩
abbrev main_v75_3 : Ref sig .tc := ⟨.hbm, 109, rfl⟩
abbrev main_v75_4 : Ref sig .tc := ⟨.hbm, 110, rfl⟩
abbrev main_while0c_c_12 : Ref sig .tc := ⟨.hbm, 111, rfl⟩
abbrev main_while0c_v87 : Ref sig .tc := ⟨.hbm, 112, rfl⟩
abbrev main_while0b_call1_c : Ref sig .tc := ⟨.hbm, 113, rfl⟩
abbrev main_while0b_call1_c_0 : Ref sig .tc := ⟨.hbm, 114, rfl⟩
abbrev main_while0b_call1_v0 : Ref sig .tc := ⟨.hbm, 115, rfl⟩
abbrev main_while0b_v87 : Ref sig .tc := ⟨.hbm, 116, rfl⟩
abbrev main_while0b_call2_c : Ref sig .tc := ⟨.hbm, 117, rfl⟩
abbrev main_while0b_call2_c_0 : Ref sig .tc := ⟨.hbm, 118, rfl⟩
abbrev main_while0b_call2_v0 : Ref sig .tc := ⟨.hbm, 119, rfl⟩
abbrev main_while0b_v88 : Ref sig .tc := ⟨.hbm, 120, rfl⟩
abbrev main_while0b_v89 : Ref sig .tc := ⟨.hbm, 121, rfl⟩
abbrev main_while0b_v90 : Ref sig .tc := ⟨.hbm, 122, rfl⟩
abbrev main_while0b_call3_v0 : Ref sig .tc := ⟨.hbm, 123, rfl⟩
abbrev main_while0b_call3_c : Ref sig .tc := ⟨.hbm, 124, rfl⟩
abbrev main_while0b_call3_c_0 : Ref sig .tc := ⟨.hbm, 125, rfl⟩
abbrev main_while0b_v91 : Ref sig .tc := ⟨.hbm, 126, rfl⟩
abbrev main_while0b_c_12 : Ref sig .tc := ⟨.hbm, 127, rfl⟩
abbrev main_while0b_v92 : Ref sig .tc := ⟨.hbm, 128, rfl⟩
abbrev main_v76 : Ref sig .tc := ⟨.hbm, 129, rfl⟩
abbrev main_v77 : Ref sig .tc := ⟨.hbm, 130, rfl⟩
abbrev main_call4_v0 : Ref sig .tc := ⟨.hbm, 131, rfl⟩
abbrev main_call4_v1 : Ref sig .tc := ⟨.hbm, 132, rfl⟩
abbrev main_call4_cst : Ref sig .tc := ⟨.hbm, 133, rfl⟩
abbrev main_call4_v2 : Ref sig .tc := ⟨.hbm, 134, rfl⟩
abbrev main_call4_v3 : Ref sig .tc := ⟨.hbm, 135, rfl⟩
abbrev main_call4_cst_0 : Ref sig .tc := ⟨.hbm, 136, rfl⟩
abbrev main_call4_v4 : Ref sig .tc := ⟨.hbm, 137, rfl⟩
abbrev main_call4_v5 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_c_6 : Ref sig .tc := ⟨.hbm, 144, rfl⟩
abbrev main_call5_v0 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_c_7 : Ref sig .tc := ⟨.hbm, 149, rfl⟩
abbrev main_call6_v0 : Ref sig .tc := ⟨.hbm, 150, rfl⟩
abbrev main_v86 : Ref sig .tc := ⟨.hbm, 151, rfl⟩

abbrev nD : Nat := 1
abbrev τ : Topo := Topo.v7x

variable {F : FTy → Type} [FloatOps F]

abbrev main_while0_count : Scf.Loop 32 := ⟨0#32, 2048#32, 1#32⟩
-- ==== Post.lean ====
abbrev S4x2048x4096 : Shape := ⟨3, ![4, 2048, 4096]⟩
abbrev S4x2048x256 : Shape := ⟨3, ![4, 2048, 256]⟩
abbrev S4096x4096 : Shape := ⟨2, ![4096, 4096]⟩
abbrev S4096 : Shape := ⟨1, ![4096]⟩
abbrev S256x4096 : Shape := ⟨2, ![256, 4096]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩
abbrev S1x4096 : Shape := ⟨2, ![1, 4096]⟩
abbrev S256 : Shape := ⟨1, ![256]⟩
abbrev S256x1 : Shape := ⟨2, ![256, 1]⟩
abbrev S8192x256 : Shape := ⟨2, ![8192, 256]⟩
abbrev S1x256x4096 : Shape := ⟨3, ![1, 256, 4096]⟩
abbrev S256x256 : Shape := ⟨2, ![256, 256]⟩

abbrev nBuf : Space → Nat
  | .hbm => 24
  | .vmem => 31
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x256, .f32⟩
  | .hbm, ⟨3, _⟩ => ⟨S4096x4096, .f32⟩
  | .hbm, ⟨4, _⟩ => ⟨S4096, .f32⟩
  | .hbm, ⟨5, _⟩ => ⟨S256x4096, .f32⟩
  | .hbm, ⟨6, _⟩ => ⟨S4096x4096, .f32⟩
  | .hbm, ⟨7, _⟩ => ⟨S4096, .f32⟩
  | .hbm, ⟨8, _⟩ => ⟨S8192x4096, .f32⟩
  | .hbm, ⟨9, _⟩ => ⟨S8192x4096, .bf16⟩
  | .hbm, ⟨10, _⟩ => ⟨S4096x4096, .bf16⟩
  | .hbm, ⟨11, _⟩ => ⟨S8192x4096, .bf16⟩
  | .hbm, ⟨12, _⟩ => ⟨S8192x4096, .f32⟩
  | .hbm, ⟨13, _⟩ => ⟨S1x4096, .f32⟩
  | .hbm, ⟨14, _⟩ => ⟨S8192x4096, .f32⟩
  | .hbm, ⟨15, _⟩ => ⟨S8192x4096, .bf16⟩
  | .hbm, ⟨16, _⟩ => ⟨S4096x4096, .bf16⟩
  | .hbm, ⟨17, _⟩ => ⟨S8192x4096, .bf16⟩
  | .hbm, ⟨18, _⟩ => ⟨S4x2048x256, .bf16⟩
  | .hbm, ⟨19, _⟩ => ⟨S8192x256, .bf16⟩
  | .hbm, ⟨20, _⟩ => ⟨S256x4096, .bf16⟩
  | .hbm, ⟨21, _⟩ => ⟨S1x256x4096, .bf16⟩
  | .hbm, ⟨22, _⟩ => ⟨S1x4096, .f32⟩
  | .hbm, ⟨23, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | .local _ .vmem, ⟨14, _⟩ => ⟨S256x4096, .bf16⟩
  | .local _ .vmem, ⟨15, _⟩ => ⟨S1024x4096, .bf16⟩
  | .local _ .vmem, ⟨16, _⟩ => ⟨S1024x4096, .bf16⟩
  | .local _ .vmem, ⟨17, _⟩ => ⟨S4096x1024, .bf16⟩
  | .local _ .vmem, ⟨18, _⟩ => ⟨S4096x1024, .bf16⟩
  | .local _ .vmem, ⟨19, _⟩ => ⟨S1024x1024, .bf16⟩
  | .local _ .vmem, ⟨20, _⟩ => ⟨S1024x1024, .bf16⟩
  | .local _ .vmem, ⟨21, _⟩ => ⟨S256x4096, .f32⟩
  | .local _ .vmem, ⟨22, _⟩ => ⟨S256x4096, .f32⟩
  | .local _ .vmem, ⟨23, _⟩ => ⟨S256x256, .bf16⟩
  | .local _ .vmem, ⟨24, _⟩ => ⟨S256x256, .bf16⟩
  | .local _ .vmem, ⟨25, _⟩ => ⟨S1x256x4096, .bf16⟩
  | .local _ .vmem, ⟨26, _⟩ => ⟨S256x4096, .bf16⟩
  | .local _ .vmem, ⟨27, _⟩ => ⟨S256x4096, .bf16⟩
  | .local _ .vmem, ⟨28, _⟩ => ⟨S1x4096, .f32⟩
  | .local _ .vmem, ⟨29, _⟩ => ⟨S256x4096, .f32⟩
  | .local _ .vmem, ⟨30, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc3_sem4_0 : DmaSem sig := 28
abbrev cc3_sem5_0 : DmaSem sig := 29
abbrev cc3_sem5_1 : DmaSem sig := 30

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4096 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256x4096 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x4096 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x4096 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x4096 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== PostRefIdeal.lean ====
abbrev S4x2048x4096 : Shape := ⟨3, ![4, 2048, 4096]⟩
abbrev S4x2048x256 : Shape := ⟨3, ![4, 2048, 256]⟩
abbrev S4096x4096 : Shape := ⟨2, ![4096, 4096]⟩
abbrev S4096 : Shape := ⟨1, ![4096]⟩
abbrev S256x4096 : Shape := ⟨2, ![256, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 68
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4x2048x256, .f32⟩
  | .hbm, ⟨3, _⟩ => ⟨S4096x4096, .f32⟩
  | .hbm, ⟨4, _⟩ => ⟨S4096, .f32⟩
  | .hbm, ⟨5, _⟩ => ⟨S256x4096, .f32⟩
  | .hbm, ⟨6, _⟩ => ⟨S4096x4096, .f32⟩
  | .hbm, ⟨7, _⟩ => ⟨S4096, .f32⟩
  | .hbm, ⟨8, _⟩ => ⟨S4x2048x4096, .f32⟩
  | .hbm, ⟨9, _⟩ => ⟨S4x2048x4096, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S4x2048x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | .hbm, ⟨25, _⟩ => ⟨S4x2048x4096, .f32⟩
  | .hbm, ⟨26, _⟩ => ⟨S4x2048x4096, .f32⟩
  | .hbm, ⟨27, _⟩ => ⟨S4x2048x4096, .f32⟩
  | .hbm, ⟨28, _⟩ => ⟨S_, .f32⟩
  | .hbm, ⟨29, _⟩ => ⟨S4x2048, .f32⟩
  | .hbm, ⟨30, _⟩ => ⟨S4x2048x1, .f32⟩
  | .hbm, ⟨31, _⟩ => ⟨S_, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1, .f32⟩
  | .hbm, ⟨38, _⟩ => ⟨S4x2048x4096, .f32⟩
  | .hbm, ⟨39, _⟩ => ⟨S4x2048x4096, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | .hbm, ⟨43, _⟩ => ⟨S_, .f32⟩
  | .hbm, ⟨44, _⟩ => ⟨S4x2048x4096, .f32⟩
  | .hbm, ⟨45, _⟩ => ⟨S4x2048x4096, .f32⟩
  | .hbm, ⟨46, _⟩ => ⟨S_, .f32⟩
  | .hbm, ⟨47, _⟩ => ⟨S4x2048x4096, .f32⟩
  | .hbm, ⟨48, _⟩ => ⟨S4x2048x4096, .f32⟩
  | .hbm, ⟨49, _⟩ => ⟨S4x2048x4096, .f32⟩
  | .hbm, ⟨50, _⟩ => ⟨S4x2048x4096, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S_, .f32⟩
  | .hbm, ⟨55, _⟩ => ⟨S4x2048x1, .f32⟩
  | .hbm, ⟨56, _⟩ => ⟨S4x2048x1, .f32⟩
  | .hbm, ⟨57, _⟩ => ⟨S_, .f32⟩
  | .hbm, ⟨58, _⟩ => ⟨S4x2048x1, .f32⟩
  | .hbm, ⟨59, _⟩ => ⟨S4x2048x1, .f32⟩
  | .hbm, ⟨60, _⟩ => ⟨S4x2048x1, .f32⟩
  | .hbm, ⟨61, _⟩ => ⟨S4x2048x4096, .f32⟩
  | .hbm, ⟨62, _⟩ => ⟨S4x2048x4096, .f32⟩
  | .hbm, ⟨63, _⟩ => ⟨S1x1x4096, .f32⟩
  | .hbm, ⟨64, _⟩ => ⟨S4x2048x4096, .f32⟩
  | .hbm, ⟨65, _⟩ => ⟨S4x2048x4096, .f32⟩
  | .hbm, ⟨66, _⟩ => ⟨S4x2048x4096, .f32⟩
  | .hbm, ⟨67, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== In.lean ====
abbrev S4x2048x4096 : Shape := ⟨3, ![4, 2048, 4096]⟩
abbrev S4096x14336 : Shape := ⟨2, ![4096, 14336]⟩
abbrev S8192x4096 : Shape := ⟨2, ![8192, 4096]⟩
abbrev S8192x14336 : Shape := ⟨2, ![8192, 14336]⟩
abbrev S1024x4096 : Shape := ⟨2, ![1024, 4096]⟩
abbrev S4096x1024 : Shape := ⟨2, ![4096, 1024]⟩
abbrev S1024x1024 : Shape := ⟨2, ![1024, 1024]⟩
abbrev S4x2048x14336 : Shape := ⟨3, ![4, 2048, 14336]⟩
abbrev S4x1x4608 : Shape := ⟨3, ![4, 1, 4608]⟩
abbrev S4x4608 : Shape := ⟨2, ![4, 4608]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x14336, .f32⟩
  | .hbm, ⟨2, _⟩ => ⟨S8192x4096, .f32⟩
  | .hbm, ⟨3, _⟩ => ⟨S8192x4096, .bf16⟩
  | .hbm, ⟨4, _⟩ => ⟨S4096x14336, .bf16⟩
  | .hbm, ⟨5, _⟩ => ⟨S8192x14336, .f32⟩
  | .hbm, ⟨6, _⟩ => ⟨S4x2048x14336, .f32⟩
  | .hbm, ⟨7, _⟩ => ⟨S4x1x4608, .f32⟩
  | .hbm, ⟨8, _⟩ => ⟨S4x4608, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S4x2048x4096 : Shape := ⟨3, ![4, 2048, 4096]⟩
abbrev S4096x14336 : Shape := ⟨2, ![4096, 14336]⟩
abbrev S4x2048x14336 : Shape := ⟨3, ![4, 2048, 14336]⟩
abbrev S4x2048x4608 : Shape := ⟨3, ![4, 2048, 4608]⟩
abbrev S8192x14336 : Shape := ⟨2, ![8192, 14336]⟩
abbrev S4x1x4608 : Shape := ⟨3, ![4, 1, 4608]⟩
abbrev S4x4608 : Shape := ⟨2, ![4, 4608]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x14336, .f32⟩
  | .hbm, ⟨2, _⟩ => ⟨S4x2048x14336, .f32⟩
  | .hbm, ⟨3, _⟩ => ⟨S4x2048x4608, .f32⟩
  | .hbm, ⟨4, _⟩ => ⟨S8192x14336, .f32⟩
  | .hbm, ⟨5, _⟩ => ⟨S4x1x4608, .f32⟩
  | .hbm, ⟨6, _⟩ => ⟨S4x4608, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Norm.lean ====
abbrev S4x2048x4096 : Shape := ⟨3, ![4, 2048, 4096]⟩
abbrev S4096 : Shape := ⟨1, ![4096]⟩
abbrev S4x4096 : Shape := ⟨2, ![4, 4096]⟩
abbrev S1536 : Shape := ⟨1, ![1536]⟩
abbrev S4096x128 : Shape := ⟨2, ![4096, 128]⟩
abbrev S128x1536 : Shape := ⟨2, ![128, 1536]⟩
abbrev S4096x1 : Shape := ⟨2, ![4096, 1]⟩
abbrev S_ : Shape := ⟨0, ![]⟩
abbrev S4096x512 : Shape := ⟨2, ![4096, 512]⟩
abbrev S1x1x4096 : Shape := ⟨3, ![1, 1, 4096]⟩
abbrev S4x1x4096 : Shape := ⟨3, ![4, 1, 4096]⟩
abbrev S1x1536 : Shape := ⟨2, ![1, 1536]⟩
abbrev S4x2048x1536 : Shape := ⟨3, ![4, 2048, 1536]⟩
abbrev S1x256x4096 : Shape := ⟨3, ![1, 256, 4096]⟩
abbrev S1x256x1536 : Shape := ⟨3, ![1, 256, 1536]⟩
abbrev S1x1x256 : Shape := ⟨3, ![1, 1, 256]⟩
abbrev S1x8x4096 : Shape := ⟨3, ![1, 8, 4096]⟩
abbrev S8x4096 : Shape := ⟨2, ![8, 4096]⟩
abbrev S4096x256 : Shape := ⟨2, ![4096, 256]⟩
abbrev S8x256 : Shape := ⟨2, ![8, 256]⟩
abbrev S1x8x256 : Shape := ⟨3, ![1, 8, 256]⟩
abbrev S1x128x4096 : Shape := ⟨3, ![1, 128, 4096]⟩
abbrev S1x128 : Shape := ⟨2, ![1, 128]⟩
abbrev S1x128x1 : Shape := ⟨3, ![1, 128, 1]⟩
abbrev S128x4096 : Shape := ⟨2, ![128, 4096]⟩
abbrev S128x512 : Shape := ⟨2, ![128, 512]⟩
abbrev S128x256 : Shape := ⟨2, ![128, 256]⟩
abbrev S1x128x256 : Shape := ⟨3, ![1, 128, 256]⟩
abbrev S128x128 : Shape := ⟨2, ![128, 128]⟩
abbrev S1x128x1536 : Shape := ⟨3, ![1, 128, 1536]⟩

abbrev nBuf : Space → Nat
  | .hbm => 39
  | .vmem => 19
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x4096, .f32⟩
  | .hbm, ⟨3, _⟩ => ⟨S4096, .f32⟩
  | .hbm, ⟨4, _⟩ => ⟨S4096, .f32⟩
  | .hbm, ⟨5, _⟩ => ⟨S1536, .f32⟩
  | .hbm, ⟨6, _⟩ => ⟨S4096x128, .f32⟩
  | .hbm, ⟨7, _⟩ => ⟨S128x1536, .f32⟩
  | .hbm, ⟨8, _⟩ => ⟨S1536, .f32⟩
  | .hbm, ⟨9, _⟩ => ⟨S4096x128, .f32⟩
  | .hbm, ⟨10, _⟩ => ⟨S128x1536, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x128, .f32⟩
  | .hbm, ⟨17, _⟩ => ⟨S4096x128, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x512, .f32⟩
  | .hbm, ⟨28, _⟩ => ⟨S4096x512, .bf16⟩
  | .hbm, ⟨29, _⟩ => ⟨S1x1x4096, .f32⟩
  | .hbm, ⟨30, _⟩ => ⟨S4x1x4096, .f32⟩
  | .hbm, ⟨31, _⟩ => ⟨S128x1536, .bf16⟩
  | .hbm, ⟨32, _⟩ => ⟨S128x1536, .bf16⟩
  | .hbm, ⟨33, _⟩ => ⟨S1x1536, .f32⟩
  | .hbm, ⟨34, _⟩ => ⟨S1x1536, .f32⟩
  | .hbm, ⟨35, _⟩ => ⟨S4x2048x4096, .bf16⟩
  | .hbm, ⟨36, _⟩ => ⟨S4x2048x1536, .f32⟩
  | .hbm, ⟨37, _⟩ => ⟨S4x2048x1536, .f32⟩
  | .hbm, ⟨38, _⟩ => ⟨S4x1x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x4096, .f32⟩
  | .local _ .vmem, ⟨5, _⟩ => ⟨S4096x512, .bf16⟩
  | .local _ .vmem, ⟨6, _⟩ => ⟨S128x1536, .bf16⟩
  | .local _ .vmem, ⟨7, _⟩ => ⟨S128x1536, .bf16⟩
  | .local _ .vmem, ⟨8, _⟩ => ⟨S1x1536, .f32⟩
  | .local _ .vmem, ⟨9, _⟩ => ⟨S1x1536, .f32⟩
  | .local _ .vmem, ⟨10, _⟩ => ⟨S1x256x4096, .bf16⟩
  | .local _ .vmem, ⟨11, _⟩ => ⟨S1x256x4096, .bf16⟩
  | .local _ .vmem, ⟨12, _⟩ => ⟨S1x256x1536, .f32⟩
  | .local _ .vmem, ⟨13, _⟩ => ⟨S1x256x1536, .f32⟩
  | .local _ .vmem, ⟨14, _⟩ => ⟨S1x256x1536, .f32⟩
  | .local _ .vmem, ⟨15, _⟩ => ⟨S1x256x1536, .f32⟩
  | .local _ .vmem, ⟨16, _⟩ => ⟨S1x1x4096, .f32⟩
  | .local _ .vmem, ⟨17, _⟩ => ⟨S1x1x4096, .f32⟩
  | .local _ .vmem, ⟨18, _⟩ => ⟨S1x1x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22_0 : Ref sig .tc := ⟨.hbm, 35, rfl⟩
abbrev main_v22_1 : Ref sig .tc := ⟨.hbm, 36, rfl⟩
abbrev main_v22_2 : Ref sig .tc := ⟨.hbm, 37, rfl⟩
abbrev main_v22_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v102 : BitVec 1 := Scalar.cmpi .eq arg1 c7_i32
  let v103 : BitVec 32 := Scalar.extui v102
  let c0_i32_54 : BitVec 32 := 0#32
  let v104 : BitVec 1 := Scalar.cmpi .ne v103 c0_i32_54
  v104

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== NormRefIdeal.lean ====
abbrev S4x2048x4096 : Shape := ⟨3, ![4, 2048, 4096]⟩
abbrev S4096 : Shape := ⟨1, ![4096]⟩
abbrev S4x4096 : Shape := ⟨2, ![4, 4096]⟩
abbrev S1536 : Shape := ⟨1, ![1536]⟩
abbrev S4096x128 : Shape := ⟨2, ![4096, 128]⟩
abbrev S128x1536 : Shape := ⟨2, ![128, 1536]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x1x4096 : Shape := ⟨3, ![4, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4x4096, .f32⟩
  | .hbm, ⟨3, _⟩ => ⟨S4096, .f32⟩
  | .hbm, ⟨4, _⟩ => ⟨S4096, .f32⟩
  | .hbm, ⟨5, _⟩ => ⟨S1536, .f32⟩
  | .hbm, ⟨6, _⟩ => ⟨S4096x128, .f32⟩
  | .hbm, ⟨7, _⟩ => ⟨S128x1536, .f32⟩
  | .hbm, ⟨8, _⟩ => ⟨S1536, .f32⟩
  | .hbm, ⟨9, _⟩ => ⟨S4096x128, .f32⟩
  | .hbm, ⟨10, _⟩ => ⟨S128x1536, .f32⟩
  | .hbm, ⟨11, _⟩ => ⟨S4x2048x4096, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | .hbm, ⟨27, _⟩ => ⟨S4x2048x4096, .bf16⟩
  | .hbm, ⟨28, _⟩ => ⟨S4x1x4096, .f32⟩
  | .hbm, ⟨29, _⟩ => ⟨S4x4096, .f32⟩
  | .hbm, ⟨30, _⟩ => ⟨S4x1x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩

abbrev nD : Nat := 1
abbrev τ : Topo := Topo.v7x

variable {F : FTy → Type} [FloatOps F]
-- ==== InS.lean ====
abbrev S128x4x4096 : Shape := ⟨3, ![128, 4, 4096]⟩
abbrev S4096x14336 : Shape := ⟨2, ![4096, 14336]⟩
abbrev S_ : Shape := ⟨0, ![]⟩
abbrev S128x8x4096 : Shape := ⟨3, ![128, 8, 4096]⟩
abbrev S1024x4096 : Shape := ⟨2, ![1024, 4096]⟩
abbrev S1x4096x14336 : Shape := ⟨3, ![1, 4096, 14336]⟩
abbrev S1024x14336 : Shape := ⟨2, ![1024, 14336]⟩
abbrev S1x4096x512 : Shape := ⟨3, ![1, 4096, 512]⟩
abbrev S1024x512 : Shape := ⟨2, ![1024, 512]⟩
abbrev S4096x512 : Shape := ⟨2, ![4096, 512]⟩
abbrev S128x8x14336 : Shape := ⟨3, ![128, 8, 14336]⟩
abbrev S128x4x14336 : Shape := ⟨3, ![128, 4, 14336]⟩
abbrev S128x1x4608 : Shape := ⟨3, ![128, 1, 4608]⟩
abbrev S128x4608 : Shape := ⟨2, ![128, 4608]⟩

abbrev nBuf : Space → Nat
  | .hbm => 14
  | .vmem => 7
  | .smem => 0
  | _ => 0

abbrev bufTy : (tb : Table) → Fin (tcTables nBuf tb) → BufTy
  | .hbm, ⟨0, _⟩ => ⟨S128x4x4096, .f32⟩
  | .hbm, ⟨1, _⟩ => ⟨S4096x14336, .f32⟩
  | .hbm, ⟨2, _⟩ => ⟨S_, .i32⟩
  | .hbm, ⟨3, _⟩ => ⟨S_, .f32⟩
  | .hbm, ⟨4, _⟩ => ⟨S128x8x4096, .f32⟩
  | .hbm, ⟨5, _⟩ => ⟨S1024x4096, .f32⟩
  | .hbm, ⟨6, _⟩ => ⟨S1024x4096, .bf16⟩
  | .hbm, ⟨7, _⟩ => ⟨S1x4096x14336, .f32⟩
  | .hbm, ⟨8, _⟩ => ⟨S1024x14336, .f32⟩
  | .hbm, ⟨9, _⟩ => ⟨S4096x14336, .bf16⟩
  | .hbm, ⟨10, _⟩ => ⟨S128x8x14336, .f32⟩
  | .hbm, ⟨11, _⟩ => ⟨S128x4x14336, .f32⟩
  | .hbm, ⟨12, _⟩ => ⟨S128x1x4608, .f32⟩
  | .hbm, ⟨13, _⟩ => ⟨S128x4608, .f32⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S1024x512, .f32⟩
  | .local _ .vmem, ⟨4, _⟩ => ⟨S1024x512, .f32⟩
  | .local _ .vmem, ⟨5, _⟩ => ⟨S4096x512, .bf16⟩
  | .local _ .vmem, ⟨6, _⟩ => ⟨S4096x512, .bf16⟩
  | _, _ => ⟨S128x4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InSRefIdeal.lean ====
abbrev S128x4x4096 : Shape := ⟨3, ![128, 4, 4096]⟩
abbrev S4096x14336 : Shape := ⟨2, ![4096, 14336]⟩
abbrev S128x4x14336 : Shape := ⟨3, ![128, 4, 14336]⟩
abbrev S128x4x4608 : Shape := ⟨3, ![128, 4, 4608]⟩
abbrev S128x1x4608 : Shape := ⟨3, ![128, 1, 4608]⟩
abbrev S128x4608 : Shape := ⟨2, ![128, 4608]⟩

abbrev nBuf : Space → Nat
  | .hbm => 6
  | .vmem => 0
  | .smem => 0
  | _ => 0

abbrev bufTy : (tb : Table) → Fin (tcTables nBuf tb) → BufTy
  | .hbm, ⟨0, _⟩ => ⟨S128x4x4096, .f32⟩
  | .hbm, ⟨1, _⟩ => ⟨S4096x14336, .f32⟩
  | .hbm, ⟨2, _⟩ => ⟨S128x4x14336, .f32⟩
  | .hbm, ⟨3, _⟩ => ⟨S128x4x4608, .f32⟩
  | .hbm, ⟨4, _⟩ => ⟨S128x1x4608, .f32⟩
  | .hbm, ⟨5, _⟩ => ⟨S128x4608, .f32⟩
  | _, _ => ⟨S128x4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Lru.Scan.lean ====
/- The recurrence `h' = a·h + b` over the extended reals, and the doubling scan that computes eight of its steps at once;
   and the scalar identities the RG-LRU gates need. No program enters here. -/
module

public import Idealize.ShloMosaic.PureOps.Ideal
public import Idealize.ShloMosaic.PureOps.Ideal.Laws
public import Idealize.ShloMosaic.Lib.IdealHost

@[expose] public section

noncomputable section

namespace Cert.Lru

open Idealize.ShloMosaic

/-- The state after `n` steps of the recurrence `h ← a n · h + b n` from `h0`. -/
def lin (a b : ℕ → EReal) (h0 : EReal) : ℕ → EReal
  | 0 => h0
  | n + 1 => a n * lin a b h0 n + b n

/-- Continuing the recurrence after `n` steps is the recurrence of the shifted coefficients. -/
theorem lin_add (a b : ℕ → EReal) (h0 : EReal) (n k : ℕ) :
    lin a b h0 (n + k) = lin (fun i => a (n + i)) (fun i => b (n + i)) (lin a b h0 n) k := by
  induction k with
  | zero => rfl
  | succ k ih => rw [← Nat.add_assoc]; show _ * _ + _ = _ * _ + _; rw [ih]

/-- The recurrence reads only the coefficients of the steps it takes. -/
theorem lin_congr {a b a' b' : ℕ → EReal} {h h' : EReal} (n : ℕ) (ha : ∀ i < n, a i = a' i) (hb : ∀ i < n, b i = b' i)
    (hh : h = h') : lin a b h n = lin a' b' h' n := by
  induction n with
  | zero => exact hh
  | succ n ih =>
    show _ * _ + _ = _ * _ + _
    rw [ih (fun i hi => ha i (by omega)) (fun i hi => hb i (by omega)), ha n (by omega), hb n (by omega)]

/-- A factor of the recurrence: between 0 and 1. -/
def Unit01 (x : EReal) : Prop := 0 ≤ x ∧ x ≤ 1

theorem Unit01.one : Unit01 1 := ⟨zero_le_one, le_rfl⟩

theorem Unit01.mul {x y : EReal} (hx : Unit01 x) (hy : Unit01 y) : Unit01 (x * y) :=
  ⟨mul_nonneg hx.1 hy.1, (mul_le_mul hx.2 hy.2 hy.1 zero_le_one).trans (by rw [one_mul])⟩

theorem Unit01.ne_top {x : EReal} (hx : Unit01 x) : x ≠ ⊤ := fun h => by
  have := hx.2
  rw [h, top_le_iff] at this
  exact absurd this (by decide)

/-- A factor between 0 and 1 distributes over every sum of extended reals. -/
theorem Unit01.mul_add {x : EReal} (hx : Unit01 x) (y z : EReal) : x * (y + z) = x * y + x * z :=
  EReal.left_distrib_of_nonneg_of_ne_top hx.1 hx.ne_top y z

/-- `A r`, `B r` are the product and the offset of the last `d` steps up to step `r`, steps before the first left out. -/
def Window (a b : ℕ → EReal) (d : ℕ) (A B : ℕ → EReal) : Prop :=
  ∀ h r, lin a b h (r + 1) = A r * lin a b h (r + 1 - d) + B r

theorem Window.one (a b : ℕ → EReal) : Window a b 1 a b := fun _ _ => rfl

/-- ONE DOUBLING: the window of `2d` steps is the window of `d` steps after the window of `d` steps that ends `d` before
    it, and before the `d`-th step nothing is added. -/
theorem Window.double {a b A B : ℕ → EReal} {d : ℕ} (w : Window a b d A B) (hA : ∀ r, Unit01 (A r)) :
    Window a b (d + d) (fun r => A r * if d ≤ r then A (r - d) else 1)
      (fun r => A r * (if d ≤ r then B (r - d) else 0) + B r) := by
  intro h r
  rw [w h r]
  by_cases hd : d ≤ r
  · simp only [if_pos hd]
    rw [show r + 1 - d = (r - d) + 1 by omega, w h (r - d), (hA r).mul_add, ← mul_assoc, add_assoc,
      show r - d + 1 - d = r + 1 - (d + d) by omega]
  · simp only [if_neg hd]
    rw [mul_one, mul_zero, zero_add, show r + 1 - d = 0 by omega, show r + 1 - (d + d) = 0 by omega]

theorem unit01_double {A : ℕ → EReal} (hA : ∀ r, Unit01 (A r)) (d r : ℕ) : Unit01 (A r * if d ≤ r then A (r - d) else 1) := by
  refine (hA r).mul ?_
  split
  · exact hA _
  · exact Unit01.one

/-- `d` more steps of doubling: the product half. -/
def dblA (d : ℕ) (A : ℕ → EReal) (r : ℕ) : EReal := A r * if d ≤ r then A (r - d) else 1
/-- `d` more steps of doubling: the offset half. -/
def dblB (d : ℕ) (A B : ℕ → EReal) (r : ℕ) : EReal := A r * (if d ≤ r then B (r - d) else 0) + B r

/-- THE SCAN OF EIGHT ROWS by three doublings: row `r` of the eight is the recurrence after `r + 1` steps. -/
theorem scan8 (a b : ℕ → EReal) (ha : ∀ r, Unit01 (a r)) (h : EReal) (r : ℕ) (hr : r < 8) :
    dblA 4 (dblA 2 (dblA 1 a)) r * h + dblB 4 (dblA 2 (dblA 1 a)) (dblB 2 (dblA 1 a) (dblB 1 a b)) r = lin a b h (r + 1) := by
  have w := (((Window.one a b).double ha).double (unit01_double ha 1)).double (unit01_double (unit01_double ha 1) 2) h r
  rw [show r + 1 - (1 + 1 + (1 + 1) + (1 + 1 + (1 + 1))) = 0 by omega] at w
  exact w.symm

/-! ## The scalar identities -/

theorem exp_nonneg (x : EReal) : 0 ≤ Ideal.exp x := by
  induction x with
  | bot => simp
  | top => simp
  | coe r => simpa using (Real.exp_pos r).le

/-- `exp` of a nonpositive exponent lies between 0 and 1. -/
theorem unit01_exp {x : EReal} (h : x ≤ 0) : Unit01 (Ideal.exp x) := by
  refine ⟨exp_nonneg x, ?_⟩
  induction x with
  | bot => simp
  | top => simp at h
  | coe r =>
    have hr : r ≤ 0 := by exact_mod_cast h
    rw [Ideal.exp_coe]
    exact_mod_cast Real.exp_le_one_iff.mpr hr

theorem logistic_nonneg (x : EReal) : 0 ≤ Ideal.logistic x := by
  induction x with
  | bot => simp
  | top => simp
  | coe r => rw [Ideal.logistic_coe]; exact_mod_cast inv_nonneg.mpr (by positivity)

theorem log1p_exp_nonneg (x : EReal) : 0 ≤ Ideal.log1p (Ideal.exp x) := by
  unfold Ideal.log1p
  induction x with
  | bot =>
    rw [Ideal.exp_bot, add_zero, ← EReal.coe_one]
    show (0 : EReal) ≤ if (1 : ℝ) ≤ 0 then ⊥ else (Real.log 1 : EReal)
    rw [if_neg (by norm_num), Real.log_one, EReal.coe_zero]
  | top =>
    rw [Ideal.exp_top, ← EReal.coe_one, EReal.coe_add_top]
    exact le_top
  | coe r =>
    rw [Ideal.exp_coe, ← EReal.coe_one, ← EReal.coe_add]
    have h1 : (0 : ℝ) < Real.exp r := Real.exp_pos r
    show (0 : EReal) ≤ if (1 + Real.exp r : ℝ) ≤ 0 then ⊥ else (Real.log (1 + Real.exp r) : EReal)
    rw [if_neg (by linarith)]
    exact_mod_cast Real.log_nonneg (by linarith)

/-- softplus, as the larger of `x` and 0 and a logarithm. -/
def softplus (x : EReal) : EReal := max x 0 + Ideal.log1p (Ideal.exp (-(max x (-x))))

theorem softplus_nonneg (x : EReal) : 0 ≤ softplus x := add_nonneg (le_max_right _ _) (log1p_exp_nonneg _)

theorem ofBits_m8 : Ideal.ofBits .f32 0xC1000000#32 = ((-8 : ℝ) : EReal) := by
  simp [Ideal.ofBits, Ideal.ieee]; rw [← EReal.coe_mul]; norm_num

theorem ofBits_m2 : Ideal.ofBits .f32 0xC0000000#32 = ((-2 : ℝ) : EReal) := by
  simp [Ideal.ofBits, Ideal.ieee]; rw [← EReal.coe_mul]; norm_num

theorem ofBits_2 : Ideal.ofBits .f32 0x40000000#32 = ((2 : ℝ) : EReal) := by
  simp [Ideal.ofBits, Ideal.ieee]; rw [← EReal.coe_mul]; norm_num

/-- The logarithm of the decay, `-8 · r · softplus`, is not positive. -/
theorem logDecay_nonpos {r s : EReal} (hr : 0 ≤ r) (hs : 0 ≤ s) : Ideal.ofBits .f32 0xC1000000#32 * r * s ≤ 0 := by
  rw [ofBits_m8]
  have h8 : ((-8 : ℝ) : EReal) ≤ 0 := by exact_mod_cast (by norm_num : (-8 : ℝ) ≤ 0)
  exact EReal.mul_nonpos_iff.mpr (Or.inr ⟨EReal.mul_nonpos_iff.mpr (Or.inr ⟨h8, hr⟩), hs⟩)

/-- `-2 tanh l / (1 - tanh l) = -(e^{2l} - 1)`, at the infinities too. -/
theorem tanh_quot (l : EReal) :
    Ideal.div (Ideal.ofBits .f32 0xC0000000#32 * Ideal.tanh l) (1 - Ideal.tanh l)
      = -(Ideal.exp (Ideal.ofBits .f32 0x40000000#32 * l) - 1) := by
  rw [ofBits_m2, ofBits_2]
  induction l with
  | bot =>
    rw [EReal.coe_mul_bot_of_pos (by norm_num), Ideal.tanh_bot, Ideal.exp_bot, zero_sub, neg_neg]
    rw [show ((-2 : ℝ) : EReal) * -1 = ((2 : ℝ) : EReal) by rw [← EReal.coe_one, ← EReal.coe_neg, ← EReal.coe_mul]; norm_num,
      show (1 : EReal) - -1 = ((2 : ℝ) : EReal) by rw [← EReal.coe_one, ← EReal.coe_neg, ← EReal.coe_sub]; norm_num]
    unfold Ideal.div
    rw [if_neg (by exact_mod_cast (by norm_num : (2 : ℝ) ≠ 0)), ← EReal.coe_inv, ← EReal.coe_mul]
    norm_num
  | top =>
    rw [EReal.coe_mul_top_of_pos (by norm_num), Ideal.tanh_top, Ideal.exp_top, mul_one]
    rw [show (1 : EReal) - 1 = 0 by rw [← EReal.coe_one, ← EReal.coe_sub]; norm_num]
    unfold Ideal.div
    rw [if_pos rfl, if_neg (by rw [not_lt]; exact_mod_cast (by norm_num : (-2 : ℝ) ≤ 0))]
    rw [show (⊤ : EReal) - 1 = ⊤ from EReal.top_sub_coe 1, EReal.neg_top]
  | coe x =>
    rw [Ideal.tanh_coe, ← EReal.coe_mul, ← EReal.coe_mul, Ideal.exp_coe, ← EReal.coe_one, ← EReal.coe_sub, ← EReal.coe_sub,
      ← EReal.coe_neg]
    have hc : (0 : ℝ) < Real.cosh x := Real.cosh_pos x
    have h1 : 1 - Real.tanh x = Real.exp (-x) / Real.cosh x := by
      rw [Real.tanh_eq_sinh_div_cosh, ← Real.cosh_sub_sinh, sub_div, div_self hc.ne']
    have h0 : (1 - Real.tanh x : ℝ) ≠ 0 := by rw [h1]; positivity
    unfold Ideal.div
    rw [if_neg (by exact_mod_cast h0), ← EReal.coe_inv, ← EReal.coe_mul]
    congr 1
    rw [← div_eq_mul_inv, div_eq_iff h0, h1, Real.tanh_eq_sinh_div_cosh, two_mul, Real.exp_add, Real.exp_neg]
    field_simp
    rw [Real.sinh_eq, Real.exp_neg]
    field_simp

end Cert.Lru
-- ==== Proof.Lru.Spec.lean ====
module

public import proofs.«01_k».proof.Proof.Lru.Scan
public import Idealize.ShloMosaic.Lib.Pointwise

@[expose] public section

/-! The recurrence as plain functions of the argument arrays, over the extended reals. Both sides of the claim are
    read as these functions: `u` is the convolution of four taps, `pre` a gate before its logistic, `decay` and
    `drive` the coefficients of `h ↦ decay · h + drive`, and `state` the recurrence itself. -/

open Idealize.ShloMosaic

noncomputable section

namespace Cert.Lru

/-- The argument arrays. -/
structure Args where
  z : FVec Ideal ⟨3, ![4, 2048, 14336]⟩ .f32
  h0 : FVec Ideal ⟨2, ![4, 1024]⟩ .f32
  cb : FVec Ideal ⟨3, ![4, 3, 1024]⟩ .f32
  cw : FVec Ideal ⟨2, ![4, 1024]⟩ .f32
  bias : FVec Ideal ⟨1, ![1024]⟩ .f32
  wr : FVec Ideal ⟨3, ![16, 64, 64]⟩ .f32
  br : FVec Ideal ⟨1, ![1024]⟩ .f32
  wi : FVec Ideal ⟨3, ![16, 64, 64]⟩ .f32
  bi : FVec Ideal ⟨1, ![1024]⟩ .f32
  lam : FVec Ideal ⟨1, ![1024]⟩ .f32

/-- Block `n` of a block-diagonal matrix acting on a row: column `64 n + d` is the sum over the block's 64 rows. -/
def blockDot (w : FVec Ideal ⟨3, ![16, 64, 64]⟩ .f32) (u : Fin 1024 → EReal) (c : Fin 1024) : EReal :=
  ∑ k : Fin 64, w (ix3 (⟨c.val / 64, by omega⟩ : Fin 16) k (⟨c.val % 64, by omega⟩ : Fin 64)) *
    u ⟨c.val / 64 * 64 + k.val, by omega⟩

/-- Four taps of a column `e` of rows, the bias first. -/
def taps (e : ℕ → EReal) (bias : EReal) (w : Fin 4 → EReal) (t : ℕ) : EReal :=
  (((bias + e t * w 0) + e (t + 1) * w 1) + e (t + 2) * w 2) + e (t + 3) * w 3

/-- The logarithm of a step's decay, of the recurrence gate before its logistic and of the channel's `lam`. -/
def logDecay (p lam : EReal) : EReal :=
  Ideal.ofBits .f32 0xC1000000#32 * Ideal.logistic p * softplus (-lam)

/-- A step's decay. -/
def decayOf (p lam : EReal) : EReal := Ideal.exp (logDecay p lam)

/-- What a step adds, of both gates before their logistics, of the channel's `lam` and of the convolution's value. -/
def driveOf (p q lam u : EReal) : EReal :=
  Ideal.sqrt (-(Ideal.exp (Ideal.ofBits .f32 0x40000000#32 * logDecay p lam) - 1)) * (Ideal.logistic q * u)

variable (A : Args)

/-- The rows the convolution reads at batch element `b`: three kept rows, then the rows of `z`. -/
def xp (b : Fin 4) (c : Fin 1024) (n : ℕ) : EReal :=
  if h : n < 3 then A.cb (ix3 b ⟨n, h⟩ c)
  else if h' : n - 3 < 2048 then A.z (ix3 b ⟨n - 3, h'⟩ (⟨c.val, by omega⟩ : Fin 14336)) else 0

def u (b : Fin 4) (t : ℕ) (c : Fin 1024) : EReal :=
  taps (xp A b c) (A.bias (ix1 c)) (fun k => A.cw (ix2 k c)) t

theorem u_eq (b : Fin 4) (t : Fin 2048) (c : Fin 1024) :
    u A b t.val c = A.bias (ix1 c)
      + (if h : t.val < 3 then A.cb (ix3 b ⟨t.val, h⟩ c)
          else A.z (ix3 b ⟨t.val - 3, by omega⟩ (⟨c.val, by omega⟩ : Fin 14336))) * A.cw (ix2 0 c)
      + (if h : 1 + t.val < 3 then A.cb (ix3 b ⟨1 + t.val, h⟩ c)
          else A.z (ix3 b ⟨1 + t.val - 3, by omega⟩ (⟨c.val, by omega⟩ : Fin 14336))) * A.cw (ix2 1 c)
      + (if h : 2 + t.val < 3 then A.cb (ix3 b ⟨2 + t.val, h⟩ c)
          else A.z (ix3 b ⟨2 + t.val - 3, by omega⟩ (⟨c.val, by omega⟩ : Fin 14336))) * A.cw (ix2 2 c)
      + A.z (ix3 b t (⟨c.val, by omega⟩ : Fin 14336)) * A.cw (ix2 3 c) := by
  have ht := t.isLt
  simp only [u, taps, xp, Nat.add_comm t.val, show t.val - 3 < 2048 by omega, show 1 + t.val - 3 < 2048 by omega,
    show 2 + t.val - 3 < 2048 by omega, show ¬ 3 + t.val < 3 by omega, show 3 + t.val - 3 = t.val by omega, ht, dite_true,
    dite_false]

def preR (b : Fin 4) (t : ℕ) (c : Fin 1024) : EReal := blockDot A.wr (u A b t) c + A.br (ix1 c)
def preI (b : Fin 4) (t : ℕ) (c : Fin 1024) : EReal := blockDot A.wi (u A b t) c + A.bi (ix1 c)

def decay (b : Fin 4) (c : Fin 1024) (t : ℕ) : EReal := decayOf (preR A b t c) (A.lam (ix1 c))
def drive (b : Fin 4) (c : Fin 1024) (t : ℕ) : EReal :=
  driveOf (preR A b t c) (preI A b t c) (A.lam (ix1 c)) (u A b t c)

/-- The state after `n` steps. -/
def state (b : Fin 4) (c : Fin 1024) (n : ℕ) : EReal :=
  lin (decay A b c) (drive A b c) (A.h0 (ix2 b c)) n

/-- The gated output of step `t`. -/
def gated (b : Fin 4) (t : Fin 2048) (c : Fin 1024) : EReal :=
  let g := A.z (ix3 b t (⟨1024 + c.val, by omega⟩ : Fin 14336))
  state A b c (t.val + 1) * (g * Ideal.logistic g)

/-- Decays are exponentials of nonpositive numbers. -/
theorem unit01_decay (b : Fin 4) (c : Fin 1024) (t : ℕ) : Unit01 (decay A b c t) :=
  unit01_exp (logDecay_nonpos (logistic_nonneg _) (softplus_nonneg _))

end Cert.Lru
-- ==== Proof.Lru.Scan8.lean ====
module

public import proofs.«01_k».proof.Proof.Lru.Spec
public import proofs.«01_k».proof.Proof.Gen.KernelIdeal.Skeleton
public import Idealize.ShloMosaic.Lib.Pointwise

@[expose] public section

/-! The kernel's scan inside groups of eight rows: its doubling steps, read at an index, are `dblA` and `dblB` of the
    group's coefficients. -/

open Idealize.ShloMosaic

set_option maxRecDepth 16384

noncomputable section

namespace Cert.KernelIdeal.Lru
open Cert.KernelIdeal Cert.KernelIdeal.Gen Cert.Lru

/-- A mask "row at least `k`", at a row below eight. -/
theorem mask_at (r : Fin 8) (k : ℕ) (hk : k < 8) (x y : EReal) :
    Scalar.select (IntOp.cmpi CmpIPredicate.sge (BitVec.ofNat 32 r.val) (BitVec.ofNat 32 k)) x y = if k ≤ r.val then x else y := by
  have h : ∀ (r k : Fin 8), IntOp.cmpi CmpIPredicate.sge (BitVec.ofNat 32 r.val) (BitVec.ofNat 32 k.val)
      = if k.val ≤ r.val then 1#1 else 0#1 := by decide
  rw [h r ⟨k, hk⟩]
  show (if (if k ≤ r.val then 1#1 else 0#1) = 1#1 then x else y) = _
  by_cases h' : k ≤ r.val <;> simp [h']

/-- The rows of a tile: both gates before their logistics, the convolution, and the channel's `lam`. -/
structure Rows (v125 I U : FVec Ideal S128x1024 .f32) (lam : FVec Ideal S1x1024 .f32) (p q u : ℕ → Fin 1024 → EReal) : Prop where
  hr : ∀ (n : Fin 128) c, v125 (ix2 n c) = Ideal.ofBits .f32 0xC1000000#32 * Ideal.logistic (p n.val c)
  hi : ∀ (n : Fin 128) c, I (ix2 n c) = Ideal.logistic (q n.val c)
  hu : ∀ (n : Fin 128) c, U (ix2 n c) = u n.val c

variable {v125 I U : FVec Ideal S128x1024 .f32} {lam : FVec Ideal S1x1024 .f32} {p q u : ℕ → Fin 1024 → EReal}
variable (h : Rows v125 I U lam p q u)

/-- A row's decay and drive. -/
def tileA (lam : FVec Ideal S1x1024 .f32) (p : ℕ → Fin 1024 → EReal) (c : Fin 1024) (n : ℕ) : EReal :=
  decayOf (p n c) (lam (ix2 0 c))
def tileB (lam : FVec Ideal S1x1024 .f32) (p q u : ℕ → Fin 1024 → EReal) (c : Fin 1024) (n : ℕ) : EReal :=
  driveOf (p n c) (q n c) (lam (ix2 0 c)) (u n c)

/-- Row `k` of group `g`, of a function of rows. -/
def grp (f : ℕ → EReal) (g : ℕ) (k : ℕ) : EReal := f (g * 8 + k)

include h in
theorem log_at (n : Fin 128) (c : Fin 1024) :
    k0_pay38 (F := Ideal) v125 (k0_pay36 lam) (k0_pay37 lam) (0 : EReal) (ix2 n c) = logDecay (p n.val c) (lam (ix2 0 c)) := by
  pointwise [k0_pay38, k0_pay36, k0_pay37, k0_pay35]
  rw [h.hr, zero_sub, zero_sub]
  rfl

include h in
theorem A1_at (g : Fin 16) (r : Fin 8) (c : Fin 1024) :
    k0_pay41 (F := Ideal) v125 (k0_pay36 lam) (k0_pay37 lam) (0 : EReal) (ix3 g r c) =
      dblA 1 (grp (tileA lam p c) g.val) r.val := by
  pointwise [k0_pay41, k0_pay40, k0_pay39]
  rw [mask_at r 1 (by decide)]
  simp only [log_at h]
  unfold dblA
  split
  · next h1 => rw [show (r.val + 8 - 1) % 8 = r.val - 1 by omega]; rfl
  · rfl

include h in
theorem A2_at (g : Fin 16) (r : Fin 8) (c : Fin 1024) :
    k0_pay44 (F := Ideal) v125 (k0_pay36 lam) (k0_pay37 lam) (0 : EReal) (ix3 g r c) =
      dblA 2 (dblA 1 (grp (tileA lam p c) g.val)) r.val := by
  pointwise [k0_pay44, k0_pay42]
  rw [mask_at r 2 (by decide), A1_at h, A1_at h]
  rw [dblA.eq_def 2]
  split
  · next h1 => simp only [show (r.val + 8 - 2) % 8 = r.val - 2 by omega]
  · rfl

include h in
theorem B2_at (g : Fin 16) (r : Fin 8) (c : Fin 1024) :
    k0_pay43 (F := Ideal) U I v125 (k0_pay36 lam) (k0_pay37 lam) (0 : EReal) (ix3 g r c) =
      dblB 2 (dblA 1 (grp (tileA lam p c) g.val)) (dblB 1 (grp (tileA lam p c) g.val) (grp (tileB lam p q u c) g.val)) r.val := by
  pointwise [k0_pay43, k0_pay42, k0_pay40, k0_pay39]
  rw [mask_at r 2 (by decide), mask_at r 1 (by decide), mask_at ⟨(r.val + 8 - 2) % 8, by omega⟩ 1 (by decide), A1_at h]
  simp only [log_at h, h.hi, h.hu, tanh_quot]
  have h8 := r.isLt
  simp only [dblB, grp, tileA, tileB, decayOf, driveOf]
  by_cases h1 : 1 ≤ r.val
  · by_cases h2 : 2 ≤ r.val
    · by_cases h3 : 3 ≤ r.val
      · simp only [h1, h2, if_true, show (r.val + 8 - 2) % 8 = r.val - 2 by omega,
          show (r.val + 8 - 1) % 8 = r.val - 1 by omega, show 1 ≤ r.val - 2 by omega,
          show (r.val - 2 + 8 - 1) % 8 = r.val - 2 - 1 by omega]
      · simp only [h1, h2, if_true, show (r.val + 8 - 2) % 8 = r.val - 2 by omega,
          show (r.val + 8 - 1) % 8 = r.val - 1 by omega, show ¬ 1 ≤ r.val - 2 by omega, if_false, mul_zero]
    · simp only [h1, h2, if_true, if_false, show (r.val + 8 - 1) % 8 = r.val - 1 by omega, mul_zero]
  · simp only [h1, show ¬ 2 ≤ r.val by omega, if_false, mul_zero]

include h in
/-- The tile's products over eight rows. -/
theorem A3_at (g : Fin 16) (r : Fin 8) (c : Fin 1024) :
    k0_pay48 (F := Ideal) (k0_pay44 v125 (k0_pay36 lam) (k0_pay37 lam) (0 : EReal)) k0_pay45
      (k0_pay46 v125 (k0_pay36 lam) (k0_pay37 lam) (0 : EReal)) (1 : EReal) (ix3 g r c) =
      dblA 4 (dblA 2 (dblA 1 (grp (tileA lam p c) g.val))) r.val := by
  pointwise [k0_pay48, k0_pay45, k0_pay46]
  rw [mask_at r 4 (by decide), A2_at h, A2_at h]
  rw [dblA.eq_def 4]
  split
  · next h1 => simp only [show (r.val + 8 - 4) % 8 = r.val - 4 by omega]
  · rfl

include h in
/-- The tile's offsets over eight rows. -/
theorem B3_at (g : Fin 16) (r : Fin 8) (c : Fin 1024) :
    k0_pay47 (F := Ideal) (k0_pay43 U I v125 (k0_pay36 lam) (k0_pay37 lam) (0 : EReal))
      (k0_pay44 v125 (k0_pay36 lam) (k0_pay37 lam) (0 : EReal)) k0_pay45 (ix3 g r c) =
      dblB 4 (dblA 2 (dblA 1 (grp (tileA lam p c) g.val)))
        (dblB 2 (dblA 1 (grp (tileA lam p c) g.val)) (dblB 1 (grp (tileA lam p c) g.val) (grp (tileB lam p q u c) g.val)))
        r.val := by
  pointwise [k0_pay47, k0_pay45]
  rw [mask_at r 4 (by decide), A2_at h, B2_at h, B2_at h]
  rw [dblB.eq_def 4]
  split
  · next h1 => simp only [show (r.val + 8 - 4) % 8 = r.val - 4 by omega]
  · rw [mul_zero]

end Cert.KernelIdeal.Lru
-- ==== Proof.Lru.Tile.lean ====
module

public import proofs.«01_k».proof.Proof.Lru.Scan8

@[expose] public section

/-! One tile of 128 rows: what the kernel's body computes from the blocks it loads and the state it carries, named. -/

open Idealize.ShloMosaic

set_option maxRecDepth 16384

noncomputable section

namespace Cert.KernelIdeal.Lru
open Cert.KernelIdeal Cert.KernelIdeal.Gen Cert.Lru

/-- The blocks a tile loads (`x`, `gate`: rows of `z`; the others are whole arrays) and what it carries. -/
structure Blocks where
  x : Vec Ideal S1x128x1024 .f32
  gate : Vec Ideal S1x128x1024 .f32
  cw : Vec Ideal S1x4x1024 .f32
  bias : Vec Ideal S1x1x1024 .f32
  wr : Vec Ideal S8x128x128 .bf16
  br : Vec Ideal S1x1024 .f32
  wi : Vec Ideal S8x128x128 .bf16
  bi : Vec Ideal S1x1024 .f32
  lam : Vec Ideal S1x1024 .f32
  h : Vec Ideal S1x1x1024 .f32
  tl : Vec Ideal S1x8x1024 .f32

variable (b : Blocks)

abbrev tap0 : Vec Ideal S1x1x1024 .f32 := View.ld (Val := Elt Ideal) (e' := .f32) b.cw (Rect.unit ![0, 0, 0] ![1, 1, 1024] inb_S1x4x1024_S1x1x1024_0_0_0)
abbrev tap1 : Vec Ideal S1x1x1024 .f32 := View.ld (Val := Elt Ideal) (e' := .f32) b.cw (Rect.unit ![0, 1, 0] ![1, 1, 1024] inb_S1x4x1024_S1x1x1024_0_1_0)
abbrev tap2 : Vec Ideal S1x1x1024 .f32 := View.ld (Val := Elt Ideal) (e' := .f32) b.cw (Rect.unit ![0, 2, 0] ![1, 1, 1024] inb_S1x4x1024_S1x1x1024_0_2_0)
abbrev tap3 : Vec Ideal S1x1x1024 .f32 := View.ld (Val := Elt Ideal) (e' := .f32) b.cw (Rect.unit ![0, 3, 0] ![1, 1, 1024] inb_S1x4x1024_S1x1x1024_0_3_0)

abbrev conv2 := k0_pay10 (F := Ideal) b.x b.tl b.bias (tap0 b) (tap1 b)
abbrev conv3 := k0_pay11 (F := Ideal) b.x b.tl
abbrev tileU := k0_pay12 (F := Ideal) b.x (conv2 b) (conv3 b) (tap2 b) (tap3 b)

/-- The recurrence gate times -8, and the input gate. -/
abbrev tileR :=
  k0_pay34 (F := Ideal) (tileU b)
    (k0_pay14 b.x (conv2 b) (conv3 b) (tap2 b) (tap3 b) (View.ld (Val := Elt Ideal) (e' := .bf16) b.wr (Rect.unit ![0, 0, 0] ![1, 128, 128] inb_S8x128x128_S1x128x128_0_0_0)))
    (k0_pay17 b.x (conv2 b) (conv3 b) (tap2 b) (tap3 b) (View.ld (Val := Elt Ideal) (e' := .bf16) b.wr (Rect.unit ![1, 0, 0] ![1, 128, 128] inb_S8x128x128_S1x128x128_1_0_0)))
    (k0_pay20 b.x (conv2 b) (conv3 b) (tap2 b) (tap3 b) (View.ld (Val := Elt Ideal) (e' := .bf16) b.wr (Rect.unit ![2, 0, 0] ![1, 128, 128] inb_S8x128x128_S1x128x128_2_0_0)))
    (k0_pay23 (tileU b) (View.ld (Val := Elt Ideal) (e' := .bf16) b.wr (Rect.unit ![3, 0, 0] ![1, 128, 128] inb_S8x128x128_S1x128x128_3_0_0)))
    (k0_pay26 (tileU b) (View.ld (Val := Elt Ideal) (e' := .bf16) b.wr (Rect.unit ![4, 0, 0] ![1, 128, 128] inb_S8x128x128_S1x128x128_4_0_0)))
    (k0_pay29 (tileU b) (View.ld (Val := Elt Ideal) (e' := .bf16) b.wr (Rect.unit ![5, 0, 0] ![1, 128, 128] inb_S8x128x128_S1x128x128_5_0_0)))
    (k0_pay31 (tileU b))
    (View.ld (Val := Elt Ideal) (e' := .bf16) b.wr (Rect.unit ![6, 0, 0] ![1, 128, 128] inb_S8x128x128_S1x128x128_6_0_0))
    (View.ld (Val := Elt Ideal) (e' := .bf16) b.wr (Rect.unit ![7, 0, 0] ![1, 128, 128] inb_S8x128x128_S1x128x128_7_0_0)) b.br
abbrev tileI :=
  k0_pay33 (F := Ideal) (tileU b)
    (k0_pay15 b.x (conv2 b) (conv3 b) (tap2 b) (tap3 b) (View.ld (Val := Elt Ideal) (e' := .bf16) b.wi (Rect.unit ![0, 0, 0] ![1, 128, 128] inb_S8x128x128_S1x128x128_0_0_0)))
    (k0_pay18 b.x (conv2 b) (conv3 b) (tap2 b) (tap3 b) (View.ld (Val := Elt Ideal) (e' := .bf16) b.wi (Rect.unit ![1, 0, 0] ![1, 128, 128] inb_S8x128x128_S1x128x128_1_0_0)))
    (k0_pay21 (k0_pay19 b.x (conv2 b) (conv3 b) (tap2 b) (tap3 b)) (View.ld (Val := Elt Ideal) (e' := .bf16) b.wi (Rect.unit ![2, 0, 0] ![1, 128, 128] inb_S8x128x128_S1x128x128_2_0_0)))
    (k0_pay24 (tileU b) (View.ld (Val := Elt Ideal) (e' := .bf16) b.wi (Rect.unit ![3, 0, 0] ![1, 128, 128] inb_S8x128x128_S1x128x128_3_0_0)))
    (k0_pay27 (tileU b) (View.ld (Val := Elt Ideal) (e' := .bf16) b.wi (Rect.unit ![4, 0, 0] ![1, 128, 128] inb_S8x128x128_S1x128x128_4_0_0)))
    (k0_pay30 (tileU b) (View.ld (Val := Elt Ideal) (e' := .bf16) b.wi (Rect.unit ![5, 0, 0] ![1, 128, 128] inb_S8x128x128_S1x128x128_5_0_0)))
    (k0_pay31 (tileU b))
    (View.ld (Val := Elt Ideal) (e' := .bf16) b.wi (Rect.unit ![6, 0, 0] ![1, 128, 128] inb_S8x128x128_S1x128x128_6_0_0))
    (View.ld (Val := Elt Ideal) (e' := .bf16) b.wi (Rect.unit ![7, 0, 0] ![1, 128, 128] inb_S8x128x128_S1x128x128_7_0_0)) b.bi

/-- The scan's halves after two doublings, and after three. -/
abbrev tileA2 := k0_pay44 (F := Ideal) (tileR b) (k0_pay36 b.lam) (k0_pay37 b.lam) (FloatOps.ofBits .f32 0x00000000#32)
abbrev tileA2r := k0_pay46 (F := Ideal) (tileR b) (k0_pay36 b.lam) (k0_pay37 b.lam) (FloatOps.ofBits .f32 0x00000000#32)
abbrev tileB2 := k0_pay43 (F := Ideal) (tileU b) (tileI b) (tileR b) (k0_pay36 b.lam) (k0_pay37 b.lam) (FloatOps.ofBits .f32 0x00000000#32)
abbrev tileA3 := k0_pay48 (F := Ideal) (tileA2 b) k0_pay45 (tileA2r b) (FloatOps.ofBits .f32 0x3F800000#32)
abbrev tileB3 := k0_pay47 (F := Ideal) (tileB2 b) (tileA2 b) k0_pay45
abbrev lastA := k0_pay49 (F := Ideal) (tileA2 b) k0_pay45 (tileA2r b) (FloatOps.ofBits .f32 0x3F800000#32)
abbrev lastB := k0_pay50 (F := Ideal) (tileB2 b) (tileA2 b) k0_pay45

/-- The state after seven groups, and after all sixteen. -/
abbrev carry7 := k0_pay57 (F := Ideal) (tileB2 b) (tileA2 b) k0_pay45 (tileA2r b) (FloatOps.ofBits .f32 0x3F800000#32) b.h
abbrev carry16 := k0_pay66 (F := Ideal) (lastA b) (lastB b) (carry7 b)

/-- The states the sixteen groups start from. -/
abbrev carries :=
  k0_pay1 (F := Ideal) b.h
    (k0_pay51 (tileB2 b) (tileA2 b) k0_pay45 (tileA2r b) (FloatOps.ofBits .f32 0x3F800000#32) b.h)
    (k0_pay52 (tileB2 b) (tileA2 b) k0_pay45 (tileA2r b) (FloatOps.ofBits .f32 0x3F800000#32) b.h)
    (k0_pay53 (tileB2 b) (tileA2 b) k0_pay45 (tileA2r b) (FloatOps.ofBits .f32 0x3F800000#32) b.h)
    (k0_pay54 (tileB2 b) (tileA2 b) k0_pay45 (tileA2r b) (FloatOps.ofBits .f32 0x3F800000#32) b.h)
    (k0_pay55 (tileB2 b) (tileA2 b) k0_pay45 (tileA2r b) (FloatOps.ofBits .f32 0x3F800000#32) b.h)
    (k0_pay56 (tileB2 b) (tileA2 b) k0_pay45 (tileA2r b) (FloatOps.ofBits .f32 0x3F800000#32) b.h)
    (carry7 b)
    (k0_pay58 (lastA b) (lastB b) (carry7 b)) (k0_pay59 (lastA b) (lastB b) (carry7 b))
    (k0_pay60 (lastA b) (lastB b) (carry7 b)) (k0_pay61 (lastA b) (lastB b) (carry7 b))
    (k0_pay62 (lastA b) (lastB b) (carry7 b)) (k0_pay63 (lastA b) (lastB b) (carry7 b))
    (k0_pay64 (lastA b) (lastB b) (carry7 b)) (k0_pay65 (lastA b) (lastB b) (carry7 b))

/-- The tile's states, its output, and the state's last row. -/
abbrev tileHs := k0_pay2 (F := Ideal) (tileB3 b) (tileA3 b) (carries b)
abbrev tileOut := k0_pay3 (F := Ideal) (tileHs b) b.gate

end Cert.KernelIdeal.Lru
-- ==== Proof.Lru.Cases.lean ====
module

public import proofs.«01_k».proof.Proof.Gen.KernelIdeal.Value
public import Idealize.ShloMosaic.Lib.Pointwise
public import proofs.«01_k».proof.Proof.Lru.Tile
public import Idealize.ShloMosaic.Lib.Pipeline.ValueKit
public import Idealize.ShloMosaic.Lib.Pipeline.ReadBack

@[expose] public section

/-! What each kind of grid point leaves: the first tile of a sequence starts from the arguments' state and tail, every other
one from what the tile before left; the last one also stores them. -/
open Idealize.ShloMosaic Idealize.ShloMosaic.TcCoe Idealize.SL Idealize.SL.Sem

set_option maxRecDepth 16384

noncomputable section

namespace Cert.KernelIdeal.Lru
open Cert.KernelIdeal Cert.KernelIdeal.Gen Cert.KernelIdeal.Value

variable (m : (l : Loc nD τ sig) → Buf (Elt Ideal) l)

/-- The blocks of point `t`, with a state and a tail. -/
abbrev blocks (c : Dev nD) (t : Fin cfg0.N) (h : FVec Ideal S1x1x1024 .f32) (tl : FVec Ideal S1x8x1024 .f32) : Blocks :=
  ⟨iblk m c 0 t, iblk m c 1 t, iblk m c 4 t, iblk m c 5 t, iblk m c 6 t, iblk m c 7 t, iblk m c 8 t, iblk m c 9 t,
    iblk m c 10 t, h, tl⟩

section A
variable (c : Dev nD) (t : Fin cfg0.N) (acc : Vec Ideal S1x128x1024 .bf16 × Vec Ideal S1x1x1024 .f32 × Vec Ideal S1x8x1024 .f32
  × Vec Ideal S1x1x1024 .f32 × Vec Ideal S1x8x1024 .f32)
  (h0 : t.val % 16 = 0) (h1 : ¬ t.val % 16 = 15)
include h0 h1

theorem tailA : (stAt0 m c t.val t.isLt acc).2.2.2.2 = k0_pay9 (F := Ideal) (iblk m c 0 t) (k0_pay7 (F := Ideal) (iblk m c 3 t)) := by
  funext y
  rw [stAt0_A m c t acc h0 h1]
  dsimp only
  unfold sout0_A_1
  frame_out
  try simp only [read_unread_whole]

theorem stateA : (stAt0 m c t.val t.isLt acc).2.2.2.1 = carry16 (blocks m c t (k0_pay6 (F := Ideal) (iblk m c 2 t)) (k0_pay7 (F := Ideal) (iblk m c 3 t))) := by
  funext y
  rw [stAt0_A m c t acc h0 h1]
  dsimp only
  unfold sout0_A_0
  frame_out
  try simp only [read_unread_whole]

theorem outA : (stAt0 m c t.val t.isLt acc).1 = tileOut (blocks m c t (k0_pay6 (F := Ideal) (iblk m c 2 t)) (k0_pay7 (F := Ideal) (iblk m c 3 t))) := by
  funext y
  rw [stAt0_A m c t acc h0 h1]
  dsimp only
  unfold out0_A_11
  frame_out
  try simp only [read_unread_whole]

end A

section B
variable (c : Dev nD) (t : Fin cfg0.N) (acc : Vec Ideal S1x128x1024 .bf16 × Vec Ideal S1x1x1024 .f32 × Vec Ideal S1x8x1024 .f32
  × Vec Ideal S1x1x1024 .f32 × Vec Ideal S1x8x1024 .f32)
  (h0 : ¬ t.val % 16 = 0) (h1 : ¬ t.val % 16 = 15)
include h0 h1

theorem tailB : (stAt0 m c t.val t.isLt acc).2.2.2.2 = k0_pay9 (F := Ideal) (iblk m c 0 t) acc.2.2.2.2 := by
  funext y
  rw [stAt0_B m c t acc h0 h1]
  dsimp only
  unfold sout0_B_1
  frame_out
  try simp only [read_unread_whole]

theorem stateB : (stAt0 m c t.val t.isLt acc).2.2.2.1 = carry16 (blocks m c t acc.2.2.2.1 acc.2.2.2.2) := by
  funext y
  rw [stAt0_B m c t acc h0 h1]
  dsimp only
  unfold sout0_B_0
  frame_out
  try simp only [read_unread_whole]

theorem outB : (stAt0 m c t.val t.isLt acc).1 = tileOut (blocks m c t acc.2.2.2.1 acc.2.2.2.2) := by
  funext y
  rw [stAt0_B m c t acc h0 h1]
  dsimp only
  unfold out0_B_11
  frame_out
  try simp only [read_unread_whole]

end B

section C
variable (c : Dev nD) (t : Fin cfg0.N) (acc : Vec Ideal S1x128x1024 .bf16 × Vec Ideal S1x1x1024 .f32 × Vec Ideal S1x8x1024 .f32
  × Vec Ideal S1x1x1024 .f32 × Vec Ideal S1x8x1024 .f32)
  (h0 : ¬ t.val % 16 = 0) (h1 : t.val % 16 = 15)
include h0 h1

theorem tailC : (stAt0 m c t.val t.isLt acc).2.2.2.2 = k0_pay9 (F := Ideal) (iblk m c 0 t) acc.2.2.2.2 := by
  funext y
  rw [stAt0_C m c t acc h0 h1]
  dsimp only
  unfold sout0_C_1
  frame_out
  try simp only [read_unread_whole]

theorem stateC : (stAt0 m c t.val t.isLt acc).2.2.2.1 = carry16 (blocks m c t acc.2.2.2.1 acc.2.2.2.2) := by
  funext y
  rw [stAt0_C m c t acc h0 h1]
  dsimp only
  unfold sout0_C_0
  frame_out
  try simp only [read_unread_whole]

theorem outC : (stAt0 m c t.val t.isLt acc).1 = tileOut (blocks m c t acc.2.2.2.1 acc.2.2.2.2) := by
  funext y
  rw [stAt0_C m c t acc h0 h1]
  dsimp only
  unfold out0_C_11
  frame_out
  try simp only [read_unread_whole]

theorem houtC : (stAt0 m c t.val t.isLt acc).2.1 = k0_pay4 (F := Ideal) (tileHs (blocks m c t acc.2.2.2.1 acc.2.2.2.2)) := by
  funext y
  rw [stAt0_C m c t acc h0 h1]
  dsimp only
  unfold out0_C_12
  frame_out
  try simp only [read_unread_whole]

theorem toutC : (stAt0 m c t.val t.isLt acc).2.2.1 = k0_pay5 (F := Ideal) (k0_pay8 (iblk m c 0 t) acc.2.2.2.2) := by
  funext y
  rw [stAt0_C m c t acc h0 h1]
  dsimp only
  unfold out0_C_13
  frame_out
  try simp only [read_unread_whole]

end C

end Cert.KernelIdeal.Lru
-- ==== Proof.Lru.Inputs.lean ====
module

public import proofs.«01_k».proof.Proof.Gen.KernelIdeal.Value
public import proofs.«01_k».proof.Proof.Lru.Spec
public import Idealize.ShloMosaic.Lib.Pointwise
public import Idealize.ShloMosaic.Lib.Pipeline.ValueKit
public import Idealize.ShloMosaic.Lib.Claim

@[expose] public section

/-! The kernel's input blocks at coordinates, over the arguments. -/

open Idealize.ShloMosaic Idealize.ShloMosaic.TcCoe Idealize.SL Idealize.SL.Sem

set_option maxRecDepth 16384

noncomputable section

namespace Cert.KernelIdeal.Lru
open Cert.KernelIdeal Cert.KernelIdeal.Gen Cert.KernelIdeal.Value Cert.Lru

variable (m : (l : Loc nD τ sig) → Buf (Elt Ideal) l) (d : Dev nD)

/-- The arguments. -/
def argsK : Args :=
  ⟨m ((d : Thread nD τ).loc main_arg0), m ((d : Thread nD τ).loc main_arg1), m ((d : Thread nD τ).loc main_arg2),
    m ((d : Thread nD τ).loc main_arg3), m ((d : Thread nD τ).loc main_arg4), m ((d : Thread nD τ).loc main_arg5),
    m ((d : Thread nD τ).loc main_arg6), m ((d : Thread nD τ).loc main_arg7), m ((d : Thread nD τ).loc main_arg8),
    m ((d : Thread nD τ).loc main_arg9)⟩

theorem idx : ∀ t : Fin cfg0.N, win0_0.index t = ![t.val / 16, t.val % 16, 0] ∧ win0_1.index t = ![t.val / 16, t.val % 16, 1]
    ∧ win0_2.index t = ![t.val / 16, 0, 0] ∧ win0_3.index t = ![t.val / 16, 0, 0] ∧ win0_4.index t = ![0, 0, 0]
    ∧ win0_5.index t = ![0, 0, 0] ∧ win0_6.index t = ![0, 0, 0] ∧ win0_7.index t = ![0, 0] ∧ win0_8.index t = ![0, 0, 0]
    ∧ win0_9.index t = ![0, 0] ∧ win0_10.index t = ![0, 0] :=
  (by decide +kernel : ∀ t : Fin grid0.N, _)

variable (t : Fin cfg0.N)

theorem t_lt : t.val < 64 := lt_of_lt_of_eq t.isLt N_0

/-- The host's arrays at the launch. -/
theorem V_eq (r : Ref sig .tc) : V m d r = StableHlo.after hostOps0_2 (StableHlo.after hostOps0_1 (StableHlo.after hostOps0 (fun b => m (d, b)))) (Proc.devRef .tc r) := by
  show StableHlo.after _ _ _ = _
  simp only [List.flatten_cons, List.flatten_nil, StableHlo.after_append, List.append_nil]

theorem v1_at (b : Fin 4) (c : Fin 1024) : V m d main_v1 (ix3 b 0 c) = (argsK m d).h0 (ix2 b c) := by
  rw [V_eq]
  after_results
  pointwise []
  rfl

theorem v0_at (b : Fin 4) (r : Fin 8) (h : 5 ≤ r.val) (c : Fin 1024) :
    V m d main_v0 (ix3 b r c) = (argsK m d).cb (ix3 b (⟨r.val - 5, by omega⟩ : Fin 3) c) := by
  rw [V_eq]
  after_results
  simp only [StableHlo.TRef.ofBuf, StableHlo.TRef.toBuf, cast_eq]
  pointwise []
  rw [dif_pos ⟨h, by omega⟩]
  rfl

theorem v2_at (k : Fin 4) (c : Fin 1024) : V m d main_v2 (ix3 0 k c) = (argsK m d).cw (ix2 k c) := by
  rw [V_eq]
  after_results
  pointwise []
  rfl

theorem v3_at (c : Fin 1024) : V m d main_v3 (ix3 0 0 c) = (argsK m d).bias (ix1 c) := by
  rw [V_eq]
  after_results
  pointwise []
  rfl

theorem v18_at (c : Fin 1024) : V m d main_v18 (ix2 0 c) = (argsK m d).br (ix1 c) := by
  rw [V_eq]
  after_results
  pointwise []
  rfl

theorem v33_at (c : Fin 1024) : V m d main_v33 (ix2 0 c) = (argsK m d).bi (ix1 c) := by
  rw [V_eq]
  after_results
  pointwise []
  rfl

theorem v34_at (c : Fin 1024) : V m d main_v34 (ix2 0 c) = (argsK m d).lam (ix1 c) := by
  rw [V_eq]
  after_results
  pointwise []
  rfl

/-- An entry of the padded identity. -/
theorem eye_at (p q : ℕ) (hp : p < 2) (hq : q < 2) :
    (FloatOps.uitofp (F := Ideal) .f32 (IntOp.cmpi CmpIPredicate.eq (IntOp.addi (BitVec.ofNat 32 p) 0#32) (BitVec.ofNat 32 q)) : EReal)
      = if p = q then 1 else 0 := by
  have h : ∀ p q : Fin 2, IntOp.cmpi CmpIPredicate.eq (IntOp.addi (BitVec.ofNat 32 p.val) 0#32) (BitVec.ofNat 32 q.val)
      = if p.val = q.val then 1#1 else 0#1 := by decide
  rw [h ⟨p, hp⟩ ⟨q, hq⟩]
  by_cases e : p = q
  · simp [e, FloatOps.uitofp]
  · simp [e, FloatOps.uitofp]

/-- Two 64-wide blocks on the diagonal of a 128-wide tile. -/
def tileOf (w : FVec Ideal ⟨3, ![16, 64, 64]⟩ .f32) (j : Fin 8) (k e : Fin 128) : EReal :=
  w (ix3 (⟨j.val * 2 + k.val / 64, by omega⟩ : Fin 16) (⟨k.val % 64, by omega⟩ : Fin 64) (⟨e.val % 64, by omega⟩ : Fin 64)) *
    if k.val / 64 = e.val / 64 then 1 else 0

theorem v17_at (j : Fin 8) (k e : Fin 128) : V m d main_v17 (ix3 j k e) = tileOf (argsK m d).wr j k e := by
  rw [V_eq]
  after_results
  pointwise []
  exact congrArg (fun x : EReal => (argsK m d).wr (ix3 (⟨j.val * 2 + k.val / 64, by omega⟩ : Fin 16) (⟨k.val % 64, by omega⟩ : Fin 64) (⟨e.val % 64, by omega⟩ : Fin 64)) * x)
    (eye_at (k.val / 64) (e.val / 64) (by omega) (by omega))

theorem v32_at (j : Fin 8) (k e : Fin 128) : V m d main_v32 (ix3 j k e) = tileOf (argsK m d).wi j k e := by
  rw [V_eq]
  after_results
  pointwise []
  exact congrArg (fun x : EReal => (argsK m d).wi (ix3 (⟨j.val * 2 + k.val / 64, by omega⟩ : Fin 16) (⟨k.val % 64, by omega⟩ : Fin 64) (⟨e.val % 64, by omega⟩ : Fin 64)) * x)
    (eye_at (k.val / 64) (e.val / 64) (by omega) (by omega))

end Cert.KernelIdeal.Lru
-- ==== Proof.Lru.Blocks.lean ====
module

public import proofs.«01_k».proof.Proof.Gen.KernelIdeal.Value
public import proofs.«01_k».proof.Proof.Lru.Spec
public import proofs.«01_k».proof.Proof.Lru.Inputs
public import Idealize.ShloMosaic.Lib.Pointwise
public import Idealize.ShloMosaic.Lib.Pipeline.ValueKit
public import Idealize.ShloMosaic.Lib.Claim

@[expose] public section

/-! The kernel's input blocks at coordinates. -/

open Idealize.ShloMosaic Idealize.ShloMosaic.TcCoe Idealize.SL Idealize.SL.Sem

set_option maxRecDepth 16384

noncomputable section

namespace Cert.KernelIdeal.Lru
open Cert.KernelIdeal Cert.KernelIdeal.Gen Cert.KernelIdeal.Value Cert.Lru

variable (m : (l : Loc nD τ sig) → Buf (Elt Ideal) l) (d : Dev nD) (t : Fin cfg0.N)

theorem x_at (r : Fin 128) (c : Fin 1024) :
    iblk m d 0 t (ix3 0 r c) = (argsK m d).z (ix3 (⟨t.val / 16, by have := t_lt t; omega⟩ : Fin 4)
      (⟨t.val % 16 * 128 + r.val, by omega⟩ : Fin 2048) (⟨c.val, by omega⟩ : Fin 14336)) := by
  unfold argsK
  dsimp only
  blk_ext [iblk, V, idx t]

theorem gate_at (r : Fin 128) (c : Fin 1024) :
    iblk m d 1 t (ix3 0 r c) = (argsK m d).z (ix3 (⟨t.val / 16, by have := t_lt t; omega⟩ : Fin 4)
      (⟨t.val % 16 * 128 + r.val, by omega⟩ : Fin 2048) (⟨1024 + c.val, by omega⟩ : Fin 14336)) := by
  unfold argsK
  dsimp only
  blk_ext [iblk, V, idx t]

theorem h_at (c : Fin 1024) :
    iblk m d 2 t (ix3 0 0 c) = (argsK m d).h0 (ix2 (⟨t.val / 16, by have := t_lt t; omega⟩ : Fin 4) c) := by
  rw [← v1_at]
  blk_ext [iblk, idx t]

theorem cb_at (r : Fin 8) (h : 5 ≤ r.val) (c : Fin 1024) :
    iblk m d 3 t (ix3 0 r c) = (argsK m d).cb (ix3 (⟨t.val / 16, by have := t_lt t; omega⟩ : Fin 4) (⟨r.val - 5, by omega⟩ : Fin 3) c) := by
  rw [← v0_at m d _ r h]
  blk_ext [iblk, idx t]

theorem cw_at (k : Fin 4) (c : Fin 1024) : iblk m d 4 t (ix3 0 k c) = (argsK m d).cw (ix2 k c) := by
  rw [← v2_at]
  blk_ext [iblk, idx t]

theorem bias_at (c : Fin 1024) : iblk m d 5 t (ix3 0 0 c) = (argsK m d).bias (ix1 c) := by
  rw [← v3_at]
  blk_ext [iblk, idx t]

theorem wr_at (j : Fin 8) (k e : Fin 128) : iblk m d 6 t (ix3 j k e) = tileOf (argsK m d).wr j k e := by
  rw [← v17_at]
  blk_ext [iblk, idx t]

theorem br_at (c : Fin 1024) : iblk m d 7 t (ix2 0 c) = (argsK m d).br (ix1 c) := by
  rw [← v18_at]
  blk_ext [iblk, idx t]

theorem wi_at (j : Fin 8) (k e : Fin 128) : iblk m d 8 t (ix3 j k e) = tileOf (argsK m d).wi j k e := by
  rw [← v32_at]
  blk_ext [iblk, idx t]

theorem bi_at (c : Fin 1024) : iblk m d 9 t (ix2 0 c) = (argsK m d).bi (ix1 c) := by
  rw [← v33_at]
  blk_ext [iblk, idx t]

theorem lam_at (c : Fin 1024) : iblk m d 10 t (ix2 0 c) = (argsK m d).lam (ix1 c) := by
  rw [← v34_at]
  blk_ext [iblk, idx t]

end Cert.KernelIdeal.Lru
-- ==== Proof.Lru.Groups.lean ====
module

public import proofs.«01_k».proof.Proof.Gen.KernelIdeal.Frame
public import Idealize.ShloMosaic.Lib.Pointwise

@[expose] public section

/-! The state after each group of eight rows, from the one before it: the last row's decay times it, plus the last row's sum. -/

open Idealize.ShloMosaic

set_option maxRecDepth 16384

noncomputable section

namespace Cert.KernelIdeal.Lru
open Cert.KernelIdeal Cert.KernelIdeal.Gen

section First
variable (B2 A2 A2r : FVec Ideal S16x8x1024 .f32) (M : IVec S16x8x1024 1) (k : Ideal .f32) (h : Vec Ideal S1x1x1024 .f32)
  (c : Fin 1024) {x y : EReal}

theorem pay49_at (g : Fin 16) : k0_pay49 A2 M A2r k (ix4 0 g 0 c) = k0_pay48 A2 M A2r k (ix3 g 7 c) := by
  pointwise [k0_pay49]

theorem pay50_at (g : Fin 16) : k0_pay50 B2 A2 M (ix4 0 g 0 c) = k0_pay47 B2 A2 M (ix3 g 7 c) := by
  pointwise [k0_pay50]

theorem pay51_at (hx : h (ix3 0 0 c) = x)
    (hy : k0_pay49 A2 M A2r k (ix4 0 0 0 c) * x + k0_pay50 B2 A2 M (ix4 0 0 0 c) = y) : k0_pay51 B2 A2 M A2r k h (ix3 0 0 c) = y := by
  rw [← hy, ← hx]
  pointwise [k0_pay51]

theorem pay52_at (hx : k0_pay51 B2 A2 M A2r k h (ix3 0 0 c) = x)
    (hy : k0_pay49 A2 M A2r k (ix4 0 1 0 c) * x + k0_pay50 B2 A2 M (ix4 0 1 0 c) = y) : k0_pay52 B2 A2 M A2r k h (ix3 0 0 c) = y := by
  rw [← hy, ← hx]
  pointwise [k0_pay52]

theorem pay53_at (hx : k0_pay52 B2 A2 M A2r k h (ix3 0 0 c) = x)
    (hy : k0_pay49 A2 M A2r k (ix4 0 2 0 c) * x + k0_pay50 B2 A2 M (ix4 0 2 0 c) = y) : k0_pay53 B2 A2 M A2r k h (ix3 0 0 c) = y := by
  rw [← hy, ← hx]
  pointwise [k0_pay53]

theorem pay54_at (hx : k0_pay53 B2 A2 M A2r k h (ix3 0 0 c) = x)
    (hy : k0_pay49 A2 M A2r k (ix4 0 3 0 c) * x + k0_pay50 B2 A2 M (ix4 0 3 0 c) = y) : k0_pay54 B2 A2 M A2r k h (ix3 0 0 c) = y := by
  rw [← hy, ← hx]
  pointwise [k0_pay54]

theorem pay55_at (hx : k0_pay54 B2 A2 M A2r k h (ix3 0 0 c) = x)
    (hy : k0_pay49 A2 M A2r k (ix4 0 4 0 c) * x + k0_pay50 B2 A2 M (ix4 0 4 0 c) = y) : k0_pay55 B2 A2 M A2r k h (ix3 0 0 c) = y := by
  rw [← hy, ← hx]
  pointwise [k0_pay55]

theorem pay56_at (hx : k0_pay55 B2 A2 M A2r k h (ix3 0 0 c) = x)
    (hy : k0_pay49 A2 M A2r k (ix4 0 5 0 c) * x + k0_pay50 B2 A2 M (ix4 0 5 0 c) = y) : k0_pay56 B2 A2 M A2r k h (ix3 0 0 c) = y := by
  rw [← hy, ← hx]
  pointwise [k0_pay56]

theorem pay57_at (hx : k0_pay56 B2 A2 M A2r k h (ix3 0 0 c) = x)
    (hy : k0_pay49 A2 M A2r k (ix4 0 6 0 c) * x + k0_pay50 B2 A2 M (ix4 0 6 0 c) = y) : k0_pay57 B2 A2 M A2r k h (ix3 0 0 c) = y := by
  rw [← hy, ← hx]
  pointwise [k0_pay57]

end First

section Second
variable (la lb : FVec Ideal S1x16x1x1024 .f32) (h : FVec Ideal S1x1x1024 .f32) (c : Fin 1024) {x y : EReal}

theorem pay58_at (hx : h (ix3 0 0 c) = x) (hy : la (ix4 0 7 0 c) * x + lb (ix4 0 7 0 c) = y) :
    k0_pay58 la lb h (ix3 0 0 c) = y := by
  rw [← hy, ← hx]
  pointwise [k0_pay58]

theorem pay59_at (hx : k0_pay58 la lb h (ix3 0 0 c) = x) (hy : la (ix4 0 8 0 c) * x + lb (ix4 0 8 0 c) = y) :
    k0_pay59 la lb h (ix3 0 0 c) = y := by
  rw [← hy, ← hx]
  pointwise [k0_pay59]

theorem pay60_at (hx : k0_pay59 la lb h (ix3 0 0 c) = x) (hy : la (ix4 0 9 0 c) * x + lb (ix4 0 9 0 c) = y) :
    k0_pay60 la lb h (ix3 0 0 c) = y := by
  rw [← hy, ← hx]
  pointwise [k0_pay60]

theorem pay61_at (hx : k0_pay60 la lb h (ix3 0 0 c) = x) (hy : la (ix4 0 10 0 c) * x + lb (ix4 0 10 0 c) = y) :
    k0_pay61 la lb h (ix3 0 0 c) = y := by
  rw [← hy, ← hx]
  pointwise [k0_pay61]

theorem pay62_at (hx : k0_pay61 la lb h (ix3 0 0 c) = x) (hy : la (ix4 0 11 0 c) * x + lb (ix4 0 11 0 c) = y) :
    k0_pay62 la lb h (ix3 0 0 c) = y := by
  rw [← hy, ← hx]
  pointwise [k0_pay62]

theorem pay63_at (hx : k0_pay62 la lb h (ix3 0 0 c) = x) (hy : la (ix4 0 12 0 c) * x + lb (ix4 0 12 0 c) = y) :
    k0_pay63 la lb h (ix3 0 0 c) = y := by
  rw [← hy, ← hx]
  pointwise [k0_pay63]

theorem pay64_at (hx : k0_pay63 la lb h (ix3 0 0 c) = x) (hy : la (ix4 0 13 0 c) * x + lb (ix4 0 13 0 c) = y) :
    k0_pay64 la lb h (ix3 0 0 c) = y := by
  rw [← hy, ← hx]
  pointwise [k0_pay64]

theorem pay65_at (hx : k0_pay64 la lb h (ix3 0 0 c) = x) (hy : la (ix4 0 14 0 c) * x + lb (ix4 0 14 0 c) = y) :
    k0_pay65 la lb h (ix3 0 0 c) = y := by
  rw [← hy, ← hx]
  pointwise [k0_pay65]

theorem pay66_at (hx : k0_pay65 la lb h (ix3 0 0 c) = x) (hy : la (ix4 0 15 0 c) * x + lb (ix4 0 15 0 c) = y) :
    k0_pay66 la lb h (ix3 0 0 c) = y := by
  rw [← hy, ← hx]
  pointwise [k0_pay66]

end Second

/-- The sixteen start states stacked. -/
theorem pay1_at (v : Fin 16 → FVec Ideal S1x1x1024 .f32) (g : Fin 16) (c : Fin 1024) :
    k0_pay1 (F := Ideal) (v 0) (v 1) (v 2) (v 3) (v 4) (v 5) (v 6) (v 7) (v 8) (v 9) (v 10) (v 11) (v 12) (v 13) (v 14) (v 15) (ix4 0 g 0 c) =
      v g (ix3 0 0 c) := by
  pointwise [k0_pay1]
  fin_cases g <;> rfl

/-- A tile's states from its rows and the states its groups start from. -/
theorem pay2_at (B A : FVec Ideal S16x8x1024 .f32) (K : FVec Ideal S1x16x1x1024 .f32) (g : Fin 16) (r : Fin 8) (c : Fin 1024) :
    k0_pay2 B A K (ix3 0 ⟨g.val * 8 + r.val, by omega⟩ c) = A (ix3 g r c) * K (ix4 0 g 0 c) + B (ix3 g r c) := by
  have hg := g.isLt
  have hr := r.isLt
  pointwise [k0_pay2]

/-- A tile's output: its states times the gate times the gate's logistic. -/
theorem pay3_at (H : FVec Ideal S1x128x1024 .f32) (G : Vec Ideal S1x128x1024 .f32) (r : Fin 128) (c : Fin 1024) :
    k0_pay3 H G (ix3 0 r c) = H (ix3 0 r c) * (G (ix3 0 r c) * Ideal.logistic (G (ix3 0 r c))) := by
  pointwise [k0_pay3]

theorem pay4_at (H : FVec Ideal S1x128x1024 .f32) (c : Fin 1024) : k0_pay4 H (ix3 0 0 c) = H (ix3 0 127 c) := by
  pointwise [k0_pay4]

end Cert.KernelIdeal.Lru
-- ==== Proof.Lru.Carry.lean ====
module

public import proofs.«01_k».proof.Proof.Lru.Tile
public import proofs.«01_k».proof.Proof.Lru.Groups

@[expose] public section

/-! The states at the groups of a tile: the one carried in, moved on by eight rows at a time. -/

open Idealize.ShloMosaic

set_option maxRecDepth 16384

noncomputable section

namespace Cert.KernelIdeal.Lru
open Cert.KernelIdeal Cert.KernelIdeal.Gen Cert.Lru

theorem zero_bits : (FloatOps.ofBits .f32 0x00000000#32 : Ideal .f32) = (0 : EReal) := by
  simp [FloatOps.ofBits]

theorem one_bits : (FloatOps.ofBits .f32 0x3F800000#32 : Ideal .f32) = (1 : EReal) := by
  simp [FloatOps.ofBits]

variable (b : Blocks) {p q u : ℕ → Fin 1024 → EReal} (hb : Rows (tileR b) (tileI b) (tileU b) b.lam p q u)
include hb

/-- The state after `n` rows of the tile. -/
def tileLin (b : Blocks) (p q u : ℕ → Fin 1024 → EReal) (c : Fin 1024) (n : ℕ) : EReal :=
  lin (tileA b.lam p c) (tileB b.lam p q u c) (b.h (ix3 0 0 c)) n

theorem row_at (g : Fin 16) (r : Fin 8) (c : Fin 1024) :
    tileA3 b (ix3 g r c) * tileLin b p q u c (g.val * 8) + tileB3 b (ix3 g r c) = tileLin b p q u c (g.val * 8 + r.val + 1) := by
  unfold tileA3 tileB3 tileA2 tileA2r tileB2
  rw [zero_bits, one_bits, A3_at hb g r c, B3_at hb g r c]
  unfold tileLin
  rw [show g.val * 8 + r.val + 1 = g.val * 8 + (r.val + 1) by omega, lin_add]
  exact scan8 _ _ (fun r => unit01_exp (logDecay_nonpos (logistic_nonneg _) (softplus_nonneg _))) _ _ r.isLt

/-- One group further. -/
theorem group_at (g : Fin 16) (c : Fin 1024) (n : ℕ) (hn : n = g.val * 8) :
    lastA b (ix4 0 g 0 c) * tileLin b p q u c n + lastB b (ix4 0 g 0 c) = tileLin b p q u c (n + 8) := by
  subst hn
  unfold lastA lastB
  rw [pay49_at, pay50_at]
  exact row_at b hb g 7 c

theorem carry1_at (c : Fin 1024) : k0_pay51 (F := Ideal) (tileB2 b) (tileA2 b) k0_pay45 (tileA2r b) (FloatOps.ofBits .f32 0x3F800000#32) b.h (ix3 0 0 c) = tileLin b p q u c 8 :=
  pay51_at _ _ _ _ _ _ _ rfl (group_at b hb 0 c 0 rfl)

theorem carry2_at (c : Fin 1024) : k0_pay52 (F := Ideal) (tileB2 b) (tileA2 b) k0_pay45 (tileA2r b) (FloatOps.ofBits .f32 0x3F800000#32) b.h (ix3 0 0 c) = tileLin b p q u c 16 :=
  pay52_at _ _ _ _ _ _ _ (carry1_at b hb c) (group_at b hb 1 c 8 rfl)

theorem carry3_at (c : Fin 1024) : k0_pay53 (F := Ideal) (tileB2 b) (tileA2 b) k0_pay45 (tileA2r b) (FloatOps.ofBits .f32 0x3F800000#32) b.h (ix3 0 0 c) = tileLin b p q u c 24 :=
  pay53_at _ _ _ _ _ _ _ (carry2_at b hb c) (group_at b hb 2 c 16 rfl)

theorem carry4_at (c : Fin 1024) : k0_pay54 (F := Ideal) (tileB2 b) (tileA2 b) k0_pay45 (tileA2r b) (FloatOps.ofBits .f32 0x3F800000#32) b.h (ix3 0 0 c) = tileLin b p q u c 32 :=
  pay54_at _ _ _ _ _ _ _ (carry3_at b hb c) (group_at b hb 3 c 24 rfl)

theorem carry5_at (c : Fin 1024) : k0_pay55 (F := Ideal) (tileB2 b) (tileA2 b) k0_pay45 (tileA2r b) (FloatOps.ofBits .f32 0x3F800000#32) b.h (ix3 0 0 c) = tileLin b p q u c 40 :=
  pay55_at _ _ _ _ _ _ _ (carry4_at b hb c) (group_at b hb 4 c 32 rfl)

theorem carry6_at (c : Fin 1024) : k0_pay56 (F := Ideal) (tileB2 b) (tileA2 b) k0_pay45 (tileA2r b) (FloatOps.ofBits .f32 0x3F800000#32) b.h (ix3 0 0 c) = tileLin b p q u c 48 :=
  pay56_at _ _ _ _ _ _ _ (carry5_at b hb c) (group_at b hb 5 c 40 rfl)

theorem carry7_at (c : Fin 1024) : k0_pay57 (F := Ideal) (tileB2 b) (tileA2 b) k0_pay45 (tileA2r b) (FloatOps.ofBits .f32 0x3F800000#32) b.h (ix3 0 0 c) = tileLin b p q u c 56 :=
  pay57_at _ _ _ _ _ _ _ (carry6_at b hb c) (group_at b hb 6 c 48 rfl)

theorem carry8_at (c : Fin 1024) : k0_pay58 (F := Ideal) (lastA b) (lastB b) (carry7 b) (ix3 0 0 c) = tileLin b p q u c 64 :=
  pay58_at _ _ _ _ (carry7_at b hb c) (group_at b hb 7 c 56 rfl)

theorem carry9_at (c : Fin 1024) : k0_pay59 (F := Ideal) (lastA b) (lastB b) (carry7 b) (ix3 0 0 c) = tileLin b p q u c 72 :=
  pay59_at _ _ _ _ (carry8_at b hb c) (group_at b hb 8 c 64 rfl)

theorem carry10_at (c : Fin 1024) : k0_pay60 (F := Ideal) (lastA b) (lastB b) (carry7 b) (ix3 0 0 c) = tileLin b p q u c 80 :=
  pay60_at _ _ _ _ (carry9_at b hb c) (group_at b hb 9 c 72 rfl)

theorem carry11_at (c : Fin 1024) : k0_pay61 (F := Ideal) (lastA b) (lastB b) (carry7 b) (ix3 0 0 c) = tileLin b p q u c 88 :=
  pay61_at _ _ _ _ (carry10_at b hb c) (group_at b hb 10 c 80 rfl)

theorem carry12_at (c : Fin 1024) : k0_pay62 (F := Ideal) (lastA b) (lastB b) (carry7 b) (ix3 0 0 c) = tileLin b p q u c 96 :=
  pay62_at _ _ _ _ (carry11_at b hb c) (group_at b hb 11 c 88 rfl)

theorem carry13_at (c : Fin 1024) : k0_pay63 (F := Ideal) (lastA b) (lastB b) (carry7 b) (ix3 0 0 c) = tileLin b p q u c 104 :=
  pay63_at _ _ _ _ (carry12_at b hb c) (group_at b hb 12 c 96 rfl)

theorem carry14_at (c : Fin 1024) : k0_pay64 (F := Ideal) (lastA b) (lastB b) (carry7 b) (ix3 0 0 c) = tileLin b p q u c 112 :=
  pay64_at _ _ _ _ (carry13_at b hb c) (group_at b hb 13 c 104 rfl)

theorem carry15_at (c : Fin 1024) : k0_pay65 (F := Ideal) (lastA b) (lastB b) (carry7 b) (ix3 0 0 c) = tileLin b p q u c 120 :=
  pay65_at _ _ _ _ (carry14_at b hb c) (group_at b hb 14 c 112 rfl)

theorem carry16_at (c : Fin 1024) : k0_pay66 (F := Ideal) (lastA b) (lastB b) (carry7 b) (ix3 0 0 c) = tileLin b p q u c 128 :=
  pay66_at _ _ _ _ (carry15_at b hb c) (group_at b hb 15 c 120 rfl)

/-- The states the groups start from. -/
theorem carries_at (g : Fin 16) (c : Fin 1024) : carries b (ix4 0 g 0 c) = tileLin b p q u c (g.val * 8) := by
  refine (pay1_at ![b.h, _, _, _, _, _, _, _, _, _, _, _, _, _, _, _] g c).trans ?_
  fin_cases g
  · rfl
  · exact carry1_at b hb c
  · exact carry2_at b hb c
  · exact carry3_at b hb c
  · exact carry4_at b hb c
  · exact carry5_at b hb c
  · exact carry6_at b hb c
  · exact carry7_at b hb c
  · exact carry8_at b hb c
  · exact carry9_at b hb c
  · exact carry10_at b hb c
  · exact carry11_at b hb c
  · exact carry12_at b hb c
  · exact carry13_at b hb c
  · exact carry14_at b hb c
  · exact carry15_at b hb c

/-- Every row's state. -/
theorem tileHs_at (n : Fin 128) (c : Fin 1024) : tileHs b (ix3 0 n c) = tileLin b p q u c (n.val + 1) := by
  have e := (pay2_at (tileB3 b) (tileA3 b) (carries b) ⟨n.val / 8, by omega⟩ ⟨n.val % 8, by omega⟩ c).trans
    ((congrArg (fun s => tileA3 b (ix3 _ _ c) * s + tileB3 b (ix3 _ _ c)) (carries_at b hb ⟨n.val / 8, by omega⟩ c)).trans
      (row_at b hb ⟨n.val / 8, by omega⟩ ⟨n.val % 8, by omega⟩ c))
  have hn : n.val / 8 * 8 + n.val % 8 = n.val := by omega
  simp only [hn] at e
  exact e

/-- The tile's output. -/
theorem tileOut_at (n : Fin 128) (c : Fin 1024) :
    tileOut b (ix3 0 n c) = tileLin b p q u c (n.val + 1) * (b.gate (ix3 0 n c) * Ideal.logistic (b.gate (ix3 0 n c))) :=
  (pay3_at (tileHs b) b.gate n c).trans (by rw [tileHs_at b hb n c])

end Cert.KernelIdeal.Lru
-- ==== Proof.Lru.Gates.lean ====
module

public import proofs.«01_k».proof.Proof.Lru.Tile
public import proofs.«01_k».proof.Proof.Lru.Spec
public import Idealize.ShloMosaic.Lib.Pointwise

@[expose] public section

/-! The convolution and the two gates of a tile at an index. -/

open Idealize.ShloMosaic

set_option maxRecDepth 16384

noncomputable section

namespace Cert.KernelIdeal.Lru
open Cert.KernelIdeal Cert.KernelIdeal.Gen Cert.Lru

variable (b : Blocks)

/-- The eight rows carried from the tile before, and under them the tile's own. -/
def ext (c : Fin 1024) (n : ℕ) : EReal :=
  if h : n < 8 then b.tl (ix3 0 ⟨n, h⟩ c) else if h : n - 8 < 128 then b.x (ix3 0 ⟨n - 8, h⟩ c) else 0

theorem tileU_at (r : Fin 128) (c : Fin 1024) :
    tileU b (ix2 r c) = taps (ext b c) (b.bias (ix3 0 0 c)) (fun k => b.cw (ix3 0 k c)) (r.val + 5) := by
  have hr := r.isLt
  have e : ∀ (n n' : ℕ) (h : n' < 136), n' = n →
      (if h : n' < 8 then b.tl (ix3 0 ⟨n', h⟩ c) else b.x (ix3 0 ⟨n' - 8, by omega⟩ c)) = ext b c n := by
    intro n n' h e
    subst e
    unfold ext
    split_ifs
    · rfl
    · rfl
    · omega
  unfold tileU conv2 conv3 tap0 tap1 tap2 tap3
  pointwise [k0_pay12, k0_pay10, k0_pay11, k0_pay8, taps]
  rw [e (r.val + 5) _ (by omega) (by omega), e (r.val + 5 + 1) _ (by omega) (by omega),
    e (r.val + 5 + 2) _ (by omega) (by omega)]
  have e3 : ext b c (r.val + 5 + 3) = b.x (ix3 0 r c) := by
    unfold ext
    rw [dif_neg (by omega), dif_pos (by omega)]
    congr 2
  rw [e3]

/-- A row of `U` against the channel's column of its 128-wide tile. -/
def blockSum (U : FVec Ideal S128x1024 .f32) (w : Vec Ideal S8x128x128 .bf16) (r : Fin 128) (c : Fin 1024) : EReal :=
  ∑ k : Fin 128, U (ix2 r ⟨c.val / 128 * 128 + k.val, by omega⟩) *
    w (ix3 (⟨c.val / 128, by omega⟩ : Fin 8) k (⟨c.val % 128, by omega⟩ : Fin 128))

theorem dite_of {p : Prop} [Decidable p] {x : p → EReal} {y : ¬ p → EReal} {z : EReal} (h : ∀ hp, x hp = z) (h' : ∀ hp, y hp = z) :
    dite p x y = z := by
  by_cases hp : p
  · rw [dif_pos hp, h hp]
  · rw [dif_neg hp, h' hp]

set_option backward.isDefEq.respectTransparency false in
theorem tileI_at (r : Fin 128) (c : Fin 1024) :
    tileI b (ix2 r c) = Ideal.logistic (blockSum (tileU b) b.wi r c + b.bi (ix2 0 c)) := by
  have hr := r.isLt
  have hc := c.isLt
  unfold tileI tileU
  pointwise [k0_pay33]
  congr 2
  refine dite_of (fun _ => ?_) fun _ => dite_of (fun _ => ?_) fun _ => dite_of (fun _ => ?_) fun _ => dite_of (fun _ => ?_) fun _ =>
    dite_of (fun _ => ?_) fun _ => dite_of (fun _ => ?_) fun _ => dite_of (fun _ => ?_) fun _ => ?_
  all_goals
    pointwise [k0_pay31, k0_pay32, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    generalize k0_pay12 (F := Ideal) b.x (conv2 b) (conv3 b) (tap2 b) (tap3 b) = U
    unfold blockSum
    refine Finset.sum_congr rfl fun k _ => ?_
    refine congrArg₂ (· * ·) (congrArg (fun n => U (ix2 r n)) (Fin.ext ?_)) ?_
    rotate_left
    refine congrArg₂ (fun j e => b.wi (ix3 j k e)) (Fin.ext ?_) (Fin.ext ?_)
    all_goals
      try simp
      try omega

set_option backward.isDefEq.respectTransparency false in
theorem tileR_at (r : Fin 128) (c : Fin 1024) :
    tileR b (ix2 r c) = Ideal.ofBits .f32 0xC1000000#32 * Ideal.logistic (blockSum (tileU b) b.wr r c + b.br (ix2 0 c)) := by
  have hr := r.isLt
  have hc := c.isLt
  unfold tileR tileU
  pointwise [k0_pay34]
  congr 3
  refine dite_of (fun _ => ?_) fun _ => dite_of (fun _ => ?_) fun _ => dite_of (fun _ => ?_) fun _ => dite_of (fun _ => ?_) fun _ =>
    dite_of (fun _ => ?_) fun _ => dite_of (fun _ => ?_) fun _ => dite_of (fun _ => ?_) fun _ => ?_
  all_goals
    pointwise [k0_pay31, k0_pay32, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    generalize k0_pay12 (F := Ideal) b.x (conv2 b) (conv3 b) (tap2 b) (tap3 b) = U
    unfold blockSum
    refine Finset.sum_congr rfl fun k _ => ?_
    refine congrArg₂ (· * ·) (congrArg (fun n => U (ix2 r n)) (Fin.ext ?_)) ?_
    rotate_left
    refine congrArg₂ (fun j e => b.wr (ix3 j k e)) (Fin.ext ?_) (Fin.ext ?_)
    all_goals
      try simp
      try omega

end Cert.KernelIdeal.Lru
-- ==== Proof.Lru.TileDot.lean ====
module

public import proofs.«01_k».proof.Proof.Gen.KernelIdeal.Value
public import proofs.«01_k».proof.Proof.Lru.Spec
public import proofs.«01_k».proof.Proof.Lru.Inputs
public import Idealize.ShloMosaic.Lib.Pointwise
public import Idealize.ShloMosaic.Lib.Pipeline.ValueKit
public import Idealize.ShloMosaic.Lib.Claim

@[expose] public section

/-! A row against a 128-wide tile that holds two 64-wide blocks. -/

open Idealize.ShloMosaic Idealize.ShloMosaic.TcCoe Idealize.SL Idealize.SL.Sem

set_option maxRecDepth 16384

noncomputable section

namespace Cert.KernelIdeal.Lru
open Cert.KernelIdeal Cert.KernelIdeal.Gen Cert.KernelIdeal.Value Cert.Lru

theorem tileOf_half (w : FVec Ideal ⟨3, ![16, 64, 64]⟩ .f32) (j : Fin 8) (k e : Fin 128) (p : ℕ) (i : Fin 64) (hp : p < 2)
    (hk : k.val = p * 64 + i.val) :
    tileOf w j k e = if p = e.val / 64 then
      w (ix3 (⟨j.val * 2 + p, by omega⟩ : Fin 16) i (⟨e.val % 64, by omega⟩ : Fin 64)) else 0 := by
  have h1 : k.val / 64 = p := by omega
  have h2 : (⟨k.val % 64, by omega⟩ : Fin 64) = i := Fin.ext (by simp only; omega)
  unfold tileOf
  simp only [h1, h2]
  split_ifs
  · rw [mul_one]
  · rw [mul_zero]

/-- A row against a column of the tile is the row's block against the block's column. -/
theorem tile_dot (w : FVec Ideal ⟨3, ![16, 64, 64]⟩ .f32) (u : Fin 1024 → EReal) (c : Fin 1024) :
    (∑ k : Fin 128, u ⟨c.val / 128 * 128 + k.val, by omega⟩ *
      tileOf w (⟨c.val / 128, by omega⟩ : Fin 8) k (⟨c.val % 128, by omega⟩ : Fin 128)) = blockDot w u c := by
  rw [Fin.sum_univ_two_halves 64 64 rfl]
  have h0 : ∀ k : Fin 64, tileOf w (⟨c.val / 128, by omega⟩ : Fin 8) (⟨k.val, by omega⟩ : Fin 128) (⟨c.val % 128, by omega⟩ : Fin 128) = _ :=
    fun k => tileOf_half w _ _ _ 0 k (by decide) (by simp only; omega)
  have h1 : ∀ k : Fin 64, tileOf w (⟨c.val / 128, by omega⟩ : Fin 8) (⟨64 + k.val, by omega⟩ : Fin 128) (⟨c.val % 128, by omega⟩ : Fin 128) = _ :=
    fun k => tileOf_half w _ _ _ 1 k (by decide) (by simp)
  simp only [h0, h1]
  have hm : (⟨c.val % 128 % 64, by omega⟩ : Fin 64) = ⟨c.val % 64, by omega⟩ := Fin.ext (by simp only; omega)
  unfold blockDot
  by_cases hc : c.val % 128 / 64 = 0
  · simp only [hc, if_true, show ¬ (1 : ℕ) = 0 by decide, if_false, mul_zero, Finset.sum_const_zero, add_zero, hm]
    refine Finset.sum_congr rfl fun k _ => (mul_comm _ _).trans ?_
    rw [show (⟨c.val / 128 * 2, by omega⟩ : Fin 16) = ⟨c.val / 64, by omega⟩ from Fin.ext (by simp only; omega),
      show (⟨c.val / 128 * 128 + k.val, by omega⟩ : Fin 1024) = ⟨c.val / 64 * 64 + k.val, by omega⟩ from Fin.ext (by simp only; omega)]
  · have hc1 : c.val % 128 / 64 = 1 := by omega
    simp only [hc1, if_true, show ¬ (0 : ℕ) = 1 by decide, if_false, mul_zero, Finset.sum_const_zero, zero_add, hm]
    refine Finset.sum_congr rfl fun k _ => (mul_comm _ _).trans ?_
    rw [show (⟨c.val / 128 * 2 + 1, by omega⟩ : Fin 16) = ⟨c.val / 64, by omega⟩ from Fin.ext (by simp only; omega),
      show (⟨c.val / 128 * 128 + (64 + k.val), by omega⟩ : Fin 1024) = ⟨c.val / 64 * 64 + k.val, by omega⟩ from Fin.ext (by simp only; omega)]

end Cert.KernelIdeal.Lru
-- ==== Proof.Lru.Point.lean ====
module

public import proofs.«01_k».proof.Proof.Lru.Carry
public import proofs.«01_k».proof.Proof.Lru.Gates
public import proofs.«01_k».proof.Proof.Lru.TileDot

@[expose] public section

/-! One tile against the recurrence: what it leaves when it starts from the recurrence's state and the rows before it. -/

open Idealize.ShloMosaic

set_option maxRecDepth 16384

noncomputable section

namespace Cert.KernelIdeal.Lru
open Cert.KernelIdeal Cert.KernelIdeal.Gen Cert.Lru

/-- Tile `j` of sequence `i`: its blocks are the arguments' rows, and it starts from the state and the rows before it. -/
structure Starts (A : Args) (i : Fin 4) (j : Fin 16) (b : Blocks) : Prop where
  x : ∀ (r : Fin 128) (c : Fin 1024), b.x (ix3 0 r c) = A.z (ix3 i (⟨j.val * 128 + r.val, by omega⟩ : Fin 2048) (⟨c.val, by omega⟩ : Fin 14336))
  gate : ∀ (r : Fin 128) (c : Fin 1024), b.gate (ix3 0 r c) = A.z (ix3 i (⟨j.val * 128 + r.val, by omega⟩ : Fin 2048) (⟨1024 + c.val, by omega⟩ : Fin 14336))
  cw : ∀ (k : Fin 4) (c : Fin 1024), b.cw (ix3 0 k c) = A.cw (ix2 k c)
  bias : ∀ c : Fin 1024, b.bias (ix3 0 0 c) = A.bias (ix1 c)
  wr : ∀ (g : Fin 8) (k e : Fin 128), b.wr (ix3 g k e) = tileOf A.wr g k e
  br : ∀ c : Fin 1024, b.br (ix2 0 c) = A.br (ix1 c)
  wi : ∀ (g : Fin 8) (k e : Fin 128), b.wi (ix3 g k e) = tileOf A.wi g k e
  bi : ∀ c : Fin 1024, b.bi (ix2 0 c) = A.bi (ix1 c)
  lam : ∀ c : Fin 1024, b.lam (ix2 0 c) = A.lam (ix1 c)
  h : ∀ c : Fin 1024, b.h (ix3 0 0 c) = state A i c (j.val * 128)
  tl : ∀ (r : Fin 8) (c : Fin 1024), 5 ≤ r.val → b.tl (ix3 0 r c) = xp A i c (j.val * 128 + (r.val - 5))

variable {A : Args} {i : Fin 4} {j : Fin 16} {b : Blocks} (s : Starts A i j b)
include s

/-- The rows under the tail are the sequence's. -/
theorem ext_at (c : Fin 1024) (n : ℕ) (h5 : 5 ≤ n) (hn : n < 136) : ext b c n = xp A i c (j.val * 128 + (n - 5)) := by
  unfold ext
  by_cases h : n < 8
  · rw [dif_pos h]
    exact s.tl ⟨n, h⟩ c h5
  · rw [dif_neg h, dif_pos (by omega : n - 8 < 128), s.x]
    unfold xp
    rw [dif_neg (by omega), dif_pos (by omega : j.val * 128 + (n - 5) - 3 < 2048)]
    congr 2
    exact Fin.ext (by simp only; omega)

theorem conv_eq (r : Fin 128) (c : Fin 1024) : tileU b (ix2 r c) = u A i (j.val * 128 + r.val) c := by
  rw [tileU_at]
  unfold u taps
  simp only [s.bias, s.cw]
  rw [ext_at s c _ (by omega) (by omega), ext_at s c _ (by omega) (by omega), ext_at s c _ (by omega) (by omega),
    ext_at s c _ (by omega) (by omega)]
  simp only [show ∀ k, r.val + 5 + k - 5 = r.val + k by omega, show r.val + 5 - 5 = r.val by omega, ← Nat.add_assoc]

theorem sum_eq (w : FVec Ideal ⟨3, ![16, 64, 64]⟩ .f32) (W : Vec Ideal S8x128x128 .bf16) (hW : ∀ g k e, W (ix3 g k e) = tileOf w g k e)
    (r : Fin 128) (c : Fin 1024) : blockSum (tileU b) W r c = blockDot w (u A i (j.val * 128 + r.val)) c := by
  rw [← tile_dot]
  unfold blockSum
  exact Finset.sum_congr rfl fun k _ => by rw [hW, conv_eq s]

theorem rows : Rows (tileR b) (tileI b) (tileU b) b.lam (fun n => preR A i (j.val * 128 + n)) (fun n => preI A i (j.val * 128 + n))
    (fun n => u A i (j.val * 128 + n)) where
  hr n c := by rw [tileR_at, sum_eq s A.wr b.wr s.wr, s.br]; rfl
  hi n c := by rw [tileI_at, sum_eq s A.wi b.wi s.wi, s.bi]; rfl
  hu n c := conv_eq s n c

theorem lin_eq (c : Fin 1024) (n : ℕ) :
    tileLin b (fun n => preR A i (j.val * 128 + n)) (fun n => preI A i (j.val * 128 + n)) (fun n => u A i (j.val * 128 + n)) c n =
      state A i c (j.val * 128 + n) := by
  unfold tileLin state
  rw [lin_add]
  refine lin_congr n (fun k _ => ?_) (fun k _ => ?_) (s.h c)
  · unfold tileA decay
    rw [s.lam]
  · unfold tileB drive
    rw [s.lam]

/-- The state it leaves. -/
theorem state_left (c : Fin 1024) : carry16 b (ix3 0 0 c) = state A i c ((j.val + 1) * 128) := by
  rw [show (j.val + 1) * 128 = j.val * 128 + 128 by omega, ← lin_eq s]
  exact carry16_at b (rows s) c

/-- The rows it leaves. -/
theorem tail_left (r : Fin 8) (c : Fin 1024) (h : 5 ≤ r.val) :
    k0_pay9 (F := Ideal) b.x b.tl (ix3 0 r c) = xp A i c ((j.val + 1) * 128 + (r.val - 5)) := by
  have e : k0_pay9 (F := Ideal) b.x b.tl (ix3 0 r c) = ext b c (128 + r.val) := by
    unfold ext
    pointwise [k0_pay9, k0_pay8]
    rw [dif_neg (by omega), dif_neg (by omega), dif_pos (by omega)]
  rw [e, ext_at s c _ (by omega) (by omega)]
  congr 1
  omega

/-- The rows the last tile stores. -/
theorem tail_stored (r : Fin 8) (c : Fin 1024) (h : 5 ≤ r.val) :
    k0_pay5 (F := Ideal) (k0_pay8 b.x b.tl) (ix3 0 r c) = xp A i c ((j.val + 1) * 128 + (r.val - 5)) := by
  rw [← tail_left s r c h]
  pointwise [k0_pay9, k0_pay5]

/-- The rows it outputs. -/
theorem out_rows (r : Fin 128) (c : Fin 1024) :
    tileOut b (ix3 0 r c) = gated A i ⟨j.val * 128 + r.val, by omega⟩ c := by
  rw [tileOut_at b (rows s), lin_eq s, s.gate]
  rfl

/-- The last row's state, as stored. -/
theorem last_row (c : Fin 1024) : k0_pay4 (F := Ideal) (tileHs b) (ix3 0 0 c) = state A i c ((j.val + 1) * 128) := by
  rw [pay4_at, tileHs_at b (rows s), lin_eq s]
  congr 1
  show j.val * 128 + (127 + 1) = _
  omega

end Cert.KernelIdeal.Lru
-- ==== Proof.Lru.Fold.lean ====
module

public import proofs.«01_k».proof.Proof.Lru.Cases
public import proofs.«01_k».proof.Proof.Lru.Blocks
public import proofs.«01_k».proof.Proof.Lru.Point

@[expose] public section

/-! The grid's points in order: every point leaves the recurrence's state and the rows before the next tile. -/

open Idealize.ShloMosaic Idealize.ShloMosaic.TcCoe Idealize.SL Idealize.SL.Sem

set_option maxRecDepth 16384

noncomputable section

namespace Cert.KernelIdeal.Lru
open Cert.KernelIdeal Cert.KernelIdeal.Gen Cert.KernelIdeal.Value Cert.Lru

variable (m : (l : Loc nD τ sig) → Buf (Elt Ideal) l) (d : Dev nD)

/-- What a point holds after its run: the output block, the two blocks stored at a sequence's end, the state, the rows. -/
abbrev Held := Vec Ideal S1x128x1024 .bf16 × Vec Ideal S1x1x1024 .f32 × Vec Ideal S1x8x1024 .f32 × Vec Ideal S1x1x1024 .f32 × Vec Ideal S1x8x1024 .f32

abbrev seqOf (t : Fin cfg0.N) : Fin 4 := ⟨t.val / 16, by have := t_lt t; omega⟩
abbrev tileNo (t : Fin cfg0.N) : Fin 16 := ⟨t.val % 16, by omega⟩

structure Leaves (A : Args) (i : Fin 4) (j : Fin 16) (s : Held) : Prop where
  out : ∀ (r : Fin 128) (c : Fin 1024), s.1 (ix3 0 r c) = gated A i ⟨j.val * 128 + r.val, by omega⟩ c
  state : ∀ c : Fin 1024, s.2.2.2.1 (ix3 0 0 c) = Cert.Lru.state A i c ((j.val + 1) * 128)
  tail : ∀ (r : Fin 8) (c : Fin 1024), 5 ≤ r.val → s.2.2.2.2 (ix3 0 r c) = xp A i c ((j.val + 1) * 128 + (r.val - 5))
  last : j.val = 15 → ∀ c : Fin 1024, s.2.1 (ix3 0 0 c) = Cert.Lru.state A i c 2048
  rows : j.val = 15 → ∀ (r : Fin 8) (c : Fin 1024), 5 ≤ r.val → s.2.2.1 (ix3 0 r c) = xp A i c (2048 + (r.val - 5))

variable (t : Fin cfg0.N)

set_option maxHeartbeats 2000000 in
theorem starts (h : FVec Ideal S1x1x1024 .f32) (tl : FVec Ideal S1x8x1024 .f32)
    (hh : ∀ c : Fin 1024, h (ix3 0 0 c) = state (argsK m d) (seqOf t) c (t.val % 16 * 128))
    (ht : ∀ (r : Fin 8) (c : Fin 1024), 5 ≤ r.val → tl (ix3 0 r c) = xp (argsK m d) (seqOf t) c (t.val % 16 * 128 + (r.val - 5))) :
    Starts (argsK m d) (seqOf t) (tileNo t) (blocks m d t h tl) :=
  Starts.mk (x_at m d t) (gate_at m d t) (cw_at m d t) (bias_at m d t) (wr_at m d t) (br_at m d t) (wi_at m d t) (bi_at m d t)
    (lam_at m d t) hh ht

omit m d t in
theorem leaves_of {A : Args} {i : Fin 4} {j : Fin 16} {b : Blocks} (s : Starts A i j b) (p : Held) (h1 : p.1 = tileOut b)
    (h2 : p.2.2.2.1 = carry16 b) (h3 : p.2.2.2.2 = k0_pay9 (F := Ideal) b.x b.tl)
    (h4 : j.val = 15 → p.2.1 = k0_pay4 (F := Ideal) (tileHs b) ∧ p.2.2.1 = k0_pay5 (F := Ideal) (k0_pay8 b.x b.tl)) : Leaves A i j p where
  out r c := by rw [h1]; exact out_rows s r c
  state c := by rw [h2]; exact state_left s c
  tail r c hr := by rw [h3]; exact tail_left s r c hr
  last hj c := by
    rw [(h4 hj).1, show 2048 = (j.val + 1) * 128 by omega]
    exact last_row s c
  rows hj r c hr := by
    rw [(h4 hj).2, show 2048 = (j.val + 1) * 128 by omega]
    exact tail_stored s r c hr

set_option maxHeartbeats 2000000 in
theorem leaves (acc : Held) (h : t.val % 16 ≠ 0 →
      (∀ c : Fin 1024, acc.2.2.2.1 (ix3 0 0 c) = state (argsK m d) (seqOf t) c (t.val % 16 * 128)) ∧
      ∀ (r : Fin 8) (c : Fin 1024), 5 ≤ r.val → acc.2.2.2.2 (ix3 0 r c) = xp (argsK m d) (seqOf t) c (t.val % 16 * 128 + (r.val - 5))) :
    Leaves (argsK m d) (seqOf t) (tileNo t) (stAt0 m d t.val t.isLt acc) := by
  by_cases h0 : t.val % 16 = 0
  · have h1 : ¬ t.val % 16 = 15 := by omega
    have s := starts m d t (k0_pay6 (F := Ideal) (iblk m d 2 t)) (k0_pay7 (F := Ideal) (iblk m d 3 t))
      (fun c => by
        pointwise [k0_pay6]
        rw [h_at, h0]
        rfl)
      (fun r c hr => by
        pointwise [k0_pay7]
        rw [cb_at m d t r hr]
        unfold xp
        rw [dif_pos (by omega)]
        simp only [h0, Nat.zero_mul, Nat.zero_add])
    exact leaves_of s _ (outA m d t acc h0 h1) (stateA m d t acc h0 h1) (tailA m d t acc h0 h1) fun hj => absurd hj h1
  · have s := starts m d t _ _ (h h0).1 (h h0).2
    by_cases h1 : t.val % 16 = 15
    · exact leaves_of s _ (outC m d t acc h0 h1) (stateC m d t acc h0 h1) (tailC m d t acc h0 h1) fun _ =>
        ⟨houtC m d t acc h0 h1, toutC m d t acc h0 h1⟩
    · exact leaves_of s _ (outB m d t acc h0 h1) (stateB m d t acc h0 h1) (tailB m d t acc h0 h1) fun hj => absurd hj h1

/-- Every point. -/
theorem fold_leaves (n : ℕ) (hn : 0 + n < cfg0.N) :
    Leaves (argsK m d) (seqOf ⟨n, by omega⟩) (tileNo ⟨n, by omega⟩)
      (Pipeline.accAt (fun n h => stAt0 m d n h junk0) (stAt0 m d) 0 n hn) := by
  induction n with
  | zero => exact leaves m d ⟨0, by omega⟩ junk0 fun h => absurd rfl h
  | succ n ih =>
    have p := ih (by omega)
    have hN := hn.trans_eq N_0
    have e : ∀ k (hk : k = n + 1) (hk' : k < cfg0.N) (acc : Held), stAt0 m d k hk' acc = stAt0 m d (n + 1) (by omega) acc := by
      intro k hk _ _
      subst hk
      rfl
    rw [Pipeline.accAt_succ, e _ (Nat.zero_add _)]
    refine leaves m d ⟨n + 1, by omega⟩ _ fun hne => ?_
    have hs : seqOf ⟨n, by omega⟩ = seqOf ⟨n + 1, by omega⟩ := Fin.ext (by simp only at hne ⊢; omega)
    have hj : n % 16 + 1 = (n + 1) % 16 := by simp only at hne; omega
    rw [← hs]
    show (∀ c : Fin 1024, _ = state _ _ c ((n + 1) % 16 * 128)) ∧ ∀ (r : Fin 8) (c : Fin 1024), _ → _ = xp _ _ c ((n + 1) % 16 * 128 + _)
    rw [← hj]
    exact ⟨p.state, p.tail⟩

end Cert.KernelIdeal.Lru
-- ==== Proof.Lru.KernelValue.lean ====
module

public import proofs.«01_k».proof.Proof.Lru.Fold

@[expose] public section

/-! What the kernel's three result arrays end holding, coordinate by coordinate. -/

open Idealize.ShloMosaic Idealize.ShloMosaic.TcCoe Idealize.SL Idealize.SL.Sem

set_option maxRecDepth 16384

noncomputable section

namespace Cert.KernelIdeal.Lru
open Cert.KernelIdeal Cert.KernelIdeal.Gen Cert.KernelIdeal.Value Cert.Lru

variable (m : (l : Loc nD τ sig) → Buf (Elt Ideal) l) (d : Dev nD)

/-- The fold at a point of sequence `b` and tile `j`. -/
theorem fold_at (n : ℕ) (hn : 0 + n < cfg0.N) (b : Fin 4) (j : Fin 16) (e : n = b.val * 16 + j.val) :
    Leaves (argsK m d) b j (Pipeline.accAt (fun n h => stAt0 m d n h junk0) (stAt0 m d) 0 n hn) := by
  have h := fold_leaves m d n hn
  have hb : seqOf ⟨n, by omega⟩ = b := Fin.ext (by simp only; omega)
  have hj : tileNo ⟨n, by omega⟩ = j := Fin.ext (by simp only; omega)
  rwa [hb, hj] at h

/-- The gated output, at the columns the blocks fill. -/
theorem mix_at (b : Fin 4) (t : Fin 2048) (c : Fin 4096) (hc : c.val < 1024) :
    G11 m d (ix3 b t c) = gated (argsK m d) b t ⟨c.val, hc⟩ := by
  have hp : pt11Of (ix3 b t c) = b.val * 16 + t.val / 128 := by
    show 16 * (b.val / 1 - 0) + 1 * (t.val / 128 - 0) + 1 * (c.val / 1024 - 0) = _
    omega
  have hN : pt11Of (ix3 b t c) < cfg0.N := by rw [hp, show cfg0.N = 64 from N_0]; omega
  have hl : loc11Of (ix3 b t c) = ix3 0 (⟨t.val % 128, by omega⟩ : Fin 128) (⟨c.val, hc⟩ : Fin 1024) := by
    funext a
    match a with
    | ⟨0, _⟩ => exact Fin.ext (Nat.mod_one _)
    | ⟨1, _⟩ => rfl
    | ⟨2, _⟩ => exact Fin.ext (Nat.mod_eq_of_lt hc)
  unfold G11
  rw [dif_pos hN, hl]
  refine ((fold_at m d _ _ b ⟨t.val / 128, by omega⟩ hp).out _ _).trans ?_
  exact congrArg (fun s => gated (argsK m d) b s ⟨c.val, hc⟩) (Fin.ext (by show t.val / 128 * 128 + t.val % 128 = t.val; omega))

/-- The last state. -/
theorem last_at (b : Fin 4) (z : Fin 1) (c : Fin 1024) : G12 m d (ix3 b z c) = state (argsK m d) b c 2048 := by
  have hp : pt12Of (ix3 b z c) = b.val * 16 + 15 := by
    show 16 * (1 * (b.val / 1 - 0) + 1 * (z.val / 1 - 0) + 1 * (c.val / 1024 - 0)) + 15 = _
    omega
  have hN : pt12Of (ix3 b z c) < cfg0.N := by rw [hp, show cfg0.N = 64 from N_0]; omega
  have hl : loc12Of (ix3 b z c) = ix3 0 0 c := by
    funext a
    match a with
    | ⟨0, _⟩ => exact Fin.ext (Nat.mod_one _)
    | ⟨1, _⟩ => exact Fin.ext (Nat.mod_one _)
    | ⟨2, _⟩ => exact Fin.ext (Nat.mod_eq_of_lt c.isLt)
  unfold G12
  rw [dif_pos hN, hl]
  exact (fold_at m d _ _ b 15 hp).last rfl c

/-- The last three rows the convolution read. -/
theorem rows_at (b : Fin 4) (r : Fin 8) (c : Fin 1024) (hr : 5 ≤ r.val) :
    G13 m d (ix3 b r c) = xp (argsK m d) b c (2048 + (r.val - 5)) := by
  have hp : pt13Of (ix3 b r c) = b.val * 16 + 15 := by
    show 16 * (1 * (b.val / 1 - 0) + 1 * (r.val / 8 - 0) + 1 * (c.val / 1024 - 0)) + 15 = _
    omega
  have hN : pt13Of (ix3 b r c) < cfg0.N := by rw [hp, show cfg0.N = 64 from N_0]; omega
  have hl : loc13Of (ix3 b r c) = ix3 0 r c := by
    funext a
    match a with
    | ⟨0, _⟩ => exact Fin.ext (Nat.mod_one _)
    | ⟨1, _⟩ => exact Fin.ext (Nat.mod_eq_of_lt r.isLt)
    | ⟨2, _⟩ => exact Fin.ext (Nat.mod_eq_of_lt c.isLt)
  unfold G13
  rw [dif_pos hN, hl]
  exact (fold_at m d _ _ b 15 hp).rows rfl r c hr

end Cert.KernelIdeal.Lru
-- ==== Proof.Lru.RefHost.lean ====
module

public import proofs.«01_k».proof.Proof.Lru.Spec
public import proofs.«01_k».proof.Proof.Gen.ReferenceIdeal.Run

@[expose] public section

/-! The reference's arrays before its loop, read at an index. -/

open Idealize.ShloMosaic Idealize.ShloMosaic.TcCoe Idealize.SL Idealize.SL.Sem Idealize.ShloMosaic.StableHlo

set_option maxRecDepth 16384

noncomputable section

namespace Cert.ReferenceIdeal.Lru
open Cert.ReferenceIdeal Cert.ReferenceIdeal.Gen Cert.ReferenceIdeal.Value Cert.Lru

/-- The argument arrays as a valuation holds them. -/
def argsOf (V : Valuation τ sig (Elt Ideal)) : Args where
  z := V (Proc.devRef .tc main_arg0)
  h0 := V (Proc.devRef .tc main_arg1)
  cb := V (Proc.devRef .tc main_arg2)
  cw := V (Proc.devRef .tc main_arg3)
  bias := V (Proc.devRef .tc main_arg4)
  wr := V (Proc.devRef .tc main_arg5)
  br := V (Proc.devRef .tc main_arg6)
  wi := V (Proc.devRef .tc main_arg7)
  bi := V (Proc.devRef .tc main_arg8)
  lam := V (Proc.devRef .tc main_arg9)

variable (V : Valuation τ sig (Elt Ideal))

/-- The convolution. -/
theorem conv_at (b : Fin 4) (t : Fin 2048) (c : Fin 1024) :
    after hostOps0 V (Proc.devRef .tc main_v31) (ix3 b t c) = u (argsOf V) b t.val c := by
  after_results
  pointwise []
  exact (u_eq (argsOf V) b t c).symm

/-- The recurrence gate, times -8. -/
theorem gateR_at (b : Fin 4) (t : Fin 2048) (c : Fin 1024) :
    after hostOps0 V (Proc.devRef .tc main_v58) (ix3 b t c) =
      Ideal.ofBits .f32 0xC1000000#32 * Ideal.logistic (preR (argsOf V) b t.val c) := by
  after_results
  pointwise []
  refine congrArg (fun x => Ideal.ofBits .f32 0xC1000000#32 * Ideal.logistic (x + (argsOf V).br (ix1 c))) ?_
  exact Finset.sum_congr rfl fun x _ => congrArg _ (u_eq (argsOf V) b t _).symm

/-- The input gate. -/
theorem gateI_at (b : Fin 4) (t : Fin 2048) (c : Fin 1024) :
    after hostOps0 V (Proc.devRef .tc main_v56) (ix3 b t c) = Ideal.logistic (preI (argsOf V) b t.val c) := by
  after_results
  pointwise []
  refine congrArg (fun x => Ideal.logistic (x + (argsOf V).bi (ix1 c))) ?_
  exact Finset.sum_congr rfl fun x _ => congrArg _ (u_eq (argsOf V) b t _).symm

theorem negLam_at (c : Fin 1024) :
    after hostOps0 V (Proc.devRef .tc main_v59) (ix1 c) = -(argsOf V).lam (ix1 c) := by
  after_results
  pointwise []
  rfl

theorem softplus_at (c : Fin 1024) :
    after hostOps0_1 V (Proc.devRef .tc main_v60) (ix1 c) = softplus (V (Proc.devRef .tc main_v59) (ix1 c)) := by
  after_results
  simp only [TRef.ofBuf, TRef.toBuf, cast_eq]
  pointwise []
  exact if_neg (fun h => h rfl)

/-- What the loop starts from. -/
abbrev E : Valuation τ sig (Elt Ideal) := after hostOps0_2 (after hostOps0_1 (after hostOps0 V))

theorem keep1 (r : Ref sig .tc) (h : r ∉ hostOps0_1_W) :
    after hostOps0_1 V (Proc.devRef .tc r) = V (Proc.devRef .tc r) :=
  after_of_writes_sub hostOps0_1 V hostOps0_1_writes h

theorem decay_at (b : Fin 4) (t : Fin 2048) (c : Fin 1024) :
    E V (Proc.devRef .tc main_v75_0) (ix3 t b c) = decay (argsOf V) b c t.val := by
  show after hostOps0_2 (after hostOps0_1 (after hostOps0 V)) _ _ = _
  generalize hW : after hostOps0_1 (after hostOps0 V) = W
  after_results
  simp only [id_eq]
  pointwise []
  subst hW
  rw [keep1 _ main_v58 (by decide), gateR_at, softplus_at, negLam_at]
  rfl

theorem drive_at (b : Fin 4) (t : Fin 2048) (c : Fin 1024) :
    E V (Proc.devRef .tc main_v75_1) (ix3 t b c) = drive (argsOf V) b c t.val := by
  show after hostOps0_2 (after hostOps0_1 (after hostOps0 V)) _ _ = _
  generalize hW : after hostOps0_1 (after hostOps0 V) = W
  after_results
  simp only [id_eq]
  pointwise []
  subst hW
  rw [keep1 _ main_v58 (by decide), keep1 _ main_v56 (by decide), keep1 _ main_v31 (by decide), gateR_at, gateI_at,
    conv_at, softplus_at, negLam_at]
  rfl

theorem counter_at : E V (Proc.devRef .tc main_v75_2) = fun _ => (0#32 : BitVec 32) := by
  show after hostOps0_2 _ _ = _
  after_results
  rfl

theorem start_at (b : Fin 4) (c : Fin 1024) :
    E V (Proc.devRef .tc main_v75_3) (ix2 b c) = (argsOf V).h0 (ix2 b c) := by
  have h : E V (Proc.devRef .tc main_v75_3) = V (Proc.devRef .tc main_arg1) := by
    show after hostOps0_2 (after hostOps0_1 (after hostOps0 V)) _ = _
    rw [← after_of_writes_sub hostOps0 V hostOps0_writes (r := main_arg1) (by decide +kernel),
      ← keep1 (after hostOps0 V) main_arg1 (by decide)]
    generalize after hostOps0_1 (after hostOps0 V) = W
    after_results
    rfl
  rw [h]; rfl

end Cert.ReferenceIdeal.Lru
-- ==== Proof.Lru.RefLoop.lean ====
module

public import proofs.«01_k».proof.Proof.Lru.RefHost
public import Idealize.ShloMosaic.Lib.DynamicIndex
public import Idealize.ShloMosaic.Lib.Pipeline.Value

@[expose] public section

/-! The reference's loop: after `k` steps the carried state is the recurrence's, and the rows below `k` of the stacked
    states are written. -/

open Idealize.ShloMosaic Idealize.ShloMosaic.TcCoe Idealize.SL Idealize.SL.Sem Idealize.ShloMosaic.StableHlo

set_option maxRecDepth 16384

noncomputable section

namespace Cert.ReferenceIdeal.Lru
open Cert.ReferenceIdeal Cert.ReferenceIdeal.Gen Cert.ReferenceIdeal.Value Cert.Lru

variable (V : Valuation τ sig (Elt Ideal))

/-- The loop's slice starts at a counter `k`. -/
theorem starts_at (k : Fin 2048) (a : Fin 3) :
    (((![fun _ => BitVec.ofNat 32 k.val, constantI S_ 32 0#32, constantI S_ 32 0#32] :
      Fin 3 → (⟨S_, .i32⟩ : BufTy).Contents (Elt Ideal))) a (Shape.Idx.first h_S_)).toInt
      = ((![k.val, 0, 0] : Fin 3 → ℕ) a : ℤ) := by
  have hk := k.isLt
  fin_cases a
  · show (BitVec.ofNat 32 k.val).toInt = (k.val : ℤ)
    rw [BitVec.toInt_eq_toNat_of_lt (by rw [BitVec.toNat_ofNat]; omega), BitVec.toNat_ofNat]; omega
  · rfl
  · rfl

theorem fits (k : Fin 2048) : S2048x4x1024.Slices ![k.val, 0, 0] S1x4x1024 := by
  refine ⟨rfl, fun a => ?_⟩
  have hk := k.isLt
  fin_cases a
  · show k.val + 1 ≤ 2048; omega
  · show 0 + 4 ≤ 4; omega
  · show 0 + 1024 ≤ 1024; omega

theorem slice_at (k : Fin 2048) (x : FVec Ideal S2048x4x1024 .f32) (b : Fin 4) (c : Fin 1024) :
    shapeCast S4x1024 (Host.dynamicSlice S1x4x1024 x (fun a => (((![fun _ => BitVec.ofNat 32 k.val, constantI S_ 32 0#32,
      constantI S_ 32 0#32] : Fin 3 → (⟨S_, .i32⟩ : BufTy).Contents (Elt Ideal))) a (Shape.Idx.first h_S_)).toInt)
      sliceFits_S2048x4x1024_S1x4x1024) shapeCasts_S1x4x1024_S4x1024 (ix2 b c) = x (ix3 k b c) := by
  rw [Host.dynamicSlice_eq_extractStridedSlice (hoff := fits k) (hs := starts_at k)]
  pointwise []

theorem update_at (k t : Fin 2048) (x : FVec Ideal S2048x4x1024 .f32) (y : FVec Ideal S4x1024 .f32) (b : Fin 4)
    (c : Fin 1024) :
    Host.dynamicUpdateSlice x (broadcastInDim S1x4x1024 ![1, 2] bcast_S4x1024_S1x4x1024_1_2 y)
      (fun a => (((![fun _ => BitVec.ofNat 32 k.val, constantI S_ 32 0#32,
      constantI S_ 32 0#32] : Fin 3 → (⟨S_, .i32⟩ : BufTy).Contents (Elt Ideal))) a (Shape.Idx.first h_S_)).toInt)
      updateFits_S2048x4x1024_S1x4x1024 (ix3 t b c) = if t = k then y (ix2 b c) else x (ix3 t b c) := by
  rw [Host.dynamicUpdateSlice_eq_updateSlice (adj := ![k.val, 0, 0]) (h' := fits k)]
  · pointwise []
    simp only [Fin.ext_iff]
    split_ifs <;> first | rfl | (exfalso; omega)
  · intro a
    rw [starts_at k]
    have hk := k.isLt
    fin_cases a
    · show (min (max (k.val : ℤ) 0) ((2048 - 1 : ℕ) : ℤ)).toNat = k.val; omega
    · rfl
    · rfl

/-- The loop's contents after `k` steps. -/
structure Inv (k : ℕ) (W : Valuation τ sig (Elt Ideal)) : Prop where
  ctr : W (Proc.devRef .tc main_v75_2) = fun _ => BitVec.ofNat 32 k
  dec : ∀ b (t : Fin 2048) c, W (Proc.devRef .tc main_v75_0) (ix3 t b c) = decay (argsOf V) b c t.val
  drv : ∀ b (t : Fin 2048) c, W (Proc.devRef .tc main_v75_1) (ix3 t b c) = drive (argsOf V) b c t.val
  st : ∀ b c, W (Proc.devRef .tc main_v75_3) (ix2 b c) = state (argsOf V) b c k
  out : ∀ b (t : Fin 2048) c, t.val < k →
    W (Proc.devRef .tc main_v75_4) (ix3 t b c) = state (argsOf V) b c (t.val + 1)

variable {V}

theorem next_at {k : Fin 2048} {W : Valuation τ sig (Elt Ideal)} (h : Inv V k.val W) (b : Fin 4) (c : Fin 1024) :
    res_main_while0b_v90 W (ix2 b c) = state (argsOf V) b c (k.val + 1) := by
  unfold res_main_while0b_v90
  rw [h.ctr]
  exact congrArg₂ (· + ·) (congrArg₂ (· * ·) ((slice_at k _ b c).trans (h.dec b k c)) (h.st b c))
    ((slice_at k _ b c).trans (h.drv b k c))

theorem Inv.step {k : Fin 2048} {W : Valuation τ sig (Elt Ideal)} (h : Inv V k.val W) : Inv V (k.val + 1) (STEP W) where
  ctr := by
    rw [STEP_main_v75_2, step_main_v75_2, h.ctr]
    funext i
    show BitVec.ofNat 32 k.val + 1#32 = BitVec.ofNat 32 (k.val + 1)
    exact (BitVec.ofNat_add ..).symm
  dec := by rw [STEP_main_v75_0]; exact h.dec
  drv := by rw [STEP_main_v75_1]; exact h.drv
  st := by rw [STEP_main_v75_3]; exact next_at h
  out b t c ht := by
    rw [STEP_main_v75_4, step_main_v75_4, h.ctr]
    refine (update_at k t _ _ b c).trans ?_
    split
    · next e => rw [e]; exact next_at h b c
    · next e => exact h.out b t c (by have := Fin.val_ne_of_ne e; omega)

theorem inv_iterate : ∀ k, k ≤ 2048 → Inv V k (STEP^[k] (E V))
  | 0, _ => ⟨counter_at V, decay_at V, drive_at V, start_at V, fun _ _ _ h => absurd h (Nat.not_lt_zero _)⟩
  | k + 1, hk => by
    rw [Function.iterate_succ_apply']
    exact Inv.step (k := ⟨k, hk⟩) (inv_iterate k (by omega))

end Cert.ReferenceIdeal.Lru
-- ==== Proof.Lru.RefValue.lean ====
module

public import proofs.«01_k».proof.Proof.Lru.RefLoop

@[expose] public section

/-! What the reference's three results hold, coordinate by coordinate, of the launch's arguments. -/

open Idealize.ShloMosaic Idealize.ShloMosaic.TcCoe Idealize.SL Idealize.SL.Sem Idealize.ShloMosaic.StableHlo

set_option maxRecDepth 16384

noncomputable section

namespace Cert.ReferenceIdeal.Lru
open Cert.ReferenceIdeal Cert.ReferenceIdeal.Gen Cert.ReferenceIdeal.Value Cert.Lru

section Results
variable {V W : Valuation τ sig (Elt Ideal)}

theorem mix_of (h : Inv V 2048 W) (hz : W (Proc.devRef .tc main_arg0) = V (Proc.devRef .tc main_arg0))
    (b : Fin 4) (t : Fin 2048) (c : Fin 4096) (hc : c.val < 1024) :
    out_main_v84 W (ix3 b t c) = gated (argsOf V) b t ⟨c.val, hc⟩ := by
  unfold out_main_v84
  pointwise []
  rw [dif_pos hc, h.out b t ⟨c.val, hc⟩ t.isLt, hz]
  rfl

theorem last_of (h : Inv V 2048 W) (b : Fin 4) (z : Fin 1) (c : Fin 1024) :
    out_main_v85 W (ix3 b z c) = state (argsOf V) b c 2048 := by
  unfold out_main_v85
  pointwise []
  exact h.st b c

theorem rows_of (hz : W (Proc.devRef .tc main_arg0) = V (Proc.devRef .tc main_arg0))
    (b : Fin 4) (r : Fin 8) (c : Fin 1024) (hr : 5 ≤ r.val) :
    out_main_v86 W (ix3 b r c) = xp (argsOf V) b c (2048 + (r.val - 5)) := by
  unfold out_main_v86
  pointwise []
  unfold xp
  rw [dif_pos ⟨hr, by omega⟩, dif_neg (by omega), dif_neg (by omega), dif_pos (by omega), hz]
  rfl

end Results

variable (m : (l : Loc nD τ sig) → Buf (Elt Ideal) l) (d : Dev nD)

/-- The arguments the launch gives. -/
abbrev argsR : Args := argsOf (launchContents m d)

/-- The loop's last contents. -/
theorem loop_end : Inv (launchContents m d) 2048 (STEP^[2048] (entryContents preI m d)) := by
  have h := inv_iterate (V := launchContents m d) 2048 le_rfl
  simp only [entryContents, afterL_cons, afterL_nil]
  exact h

theorem mix_at (b : Fin 4) (t : Fin 2048) (c : Fin 4096) (hc : c.val < 1024) :
    out_main_v84 (STEP^[2048] (entryContents preI m d)) (ix3 b t c) = gated (argsR m d) b t ⟨c.val, hc⟩ :=
  mix_of (loop_end m d) (iter_main_arg0 m d 2048) b t c hc

theorem last_at (b : Fin 4) (z : Fin 1) (c : Fin 1024) :
    out_main_v85 (STEP^[2048] (entryContents preI m d)) (ix3 b z c) = state (argsR m d) b c 2048 :=
  last_of (loop_end m d) b z c

theorem rows_at (b : Fin 4) (r : Fin 8) (c : Fin 1024) (hr : 5 ≤ r.val) :
    out_main_v86 (STEP^[2048] (entryContents preI m d)) (ix3 b r c) = xp (argsR m d) b c (2048 + (r.val - 5)) :=
  rows_of (iter_main_arg0 m d 2048) b r c hr

end Cert.ReferenceIdeal.Lru
-- ==== Proof.Lru.Claims.lean ====
module

public import proofs.«01_k».proof.Defs
public import proofs.«01_k».proof.Proof.Gen.On_written
public import proofs.«01_k».proof.Proof.Gen.KernelIdeal.Frame
public import proofs.«01_k».proof.Proof.Lru.KernelValue
public import proofs.«01_k».proof.Proof.Lru.RefValue
public import Idealize.ShloMosaic.Adequacy
public import Idealize.ShloMosaic.Init

@[expose] public section

/-! The recurrence's claims: the mask read at an index, both runs, and their results compared where the mask is set. -/

open Idealize.ShloMosaic Idealize.ShloMosaic.TcCoe Idealize.SL Idealize.SL.Sem

set_option maxRecDepth 16384

noncomputable section

namespace Cert.On_written

variable {F : FTy → Type} [FloatOps F] [Facts]
  (z : FVec F S4x2048x14336 .f32) (h0 : FVec F S4x1024 .f32) (cb : FVec F S4x3x1024 .f32) (cw : FVec F S4x1024 .f32)
  (bias : FVec F S1024 .f32) (wr : FVec F S16x64x64 .f32) (br : FVec F S1024 .f32) (wi : FVec F S16x64x64 .f32)
  (bi lam : FVec F S1024 .f32)

/-- In the gated output the mask asks for the first 1024 columns. -/
theorem col_of {b : Fin 4} {t : Fin 2048} {c : Fin 4096} (h : (fn z h0 cb cw bias wr br wi bi lam).1 (ix3 b t c) = 1#1) :
    c.val < 1024 :=
  (by decide +kernel : ∀ n < 4096, IntOp.cmpi .slt (BitVec.ofNat 32 n) 1024#32 = 1#1 → n < 1024) _ c.isLt h

/-- In the rows kept for the next call it asks for the last three of eight. -/
theorem row_of {b : Fin 4} {r : Fin 8} {c : Fin 1024} (h : (fn z h0 cb cw bias wr br wi bi lam).2.2 (ix3 b r c) = 1#1) :
    5 ≤ r.val :=
  (by decide : ∀ n < 8, IntOp.cmpi .sge (BitVec.ofNat 32 n) 5#32 = 1#1 → 5 ≤ n) _ r.isLt h

end Cert.On_written

namespace Cert.Proof.Lru
open Cert.Lru

theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem algebraic : Cert.algebraic_KernelIdeal_ReferenceIdeal_on_written := by
  intro m ρ m' ρ' _ hag
  have e (d : Dev Cert.KernelIdeal.nD) : Cert.ReferenceIdeal.Lru.argsR m' d = Cert.KernelIdeal.Lru.argsK m d := by
    obtain ⟨g0, g1, g2, g3, g4, g5, g6, g7, g8, g9⟩ := hag d
    exact (Args.mk.injEq ..).mpr ⟨g0, g1, g2, g3, g4, g5, g6, g7, g8, g9⟩
  refine ⟨_, fun d => Cert.KernelIdeal.Value.G12 m d, fun d => Cert.KernelIdeal.Value.G13 m d,
    (θ_run Cert.KernelIdeal.defs _ _).mono (fun r h c => ⟨fun i _ => congrFun (h c).1 i, fun i _ => congrFun (h c).2.1 i,
      fun i _ => congrFun (h c).2.2.1 i, (h c).2.2.2⟩) (Cert.KernelIdeal.Value.run (F := Ideal) m ρ),
    (θ_run Cert.ReferenceIdeal.defs _ _).mono (fun r h c => ⟨fun i hi => (congrFun (h c).1 i).trans ?_,
      fun i _ => (congrFun (h c).2.1 i).trans ?_, fun i hi => (congrFun (h c).2.2.1 i).trans ?_, (h c).2.2.2⟩)
      (Cert.ReferenceIdeal.Value.run (F := Ideal) m' ρ')⟩
  · obtain ⟨a, t, k, rfl⟩ : ∃ (a : Fin 4) (t : Fin 2048) (k : Fin 4096), i = ix3 a t k := ⟨_, _, _, eq_ix3 i⟩
    have hk := Cert.On_written.col_of _ _ _ _ _ _ _ _ _ _ hi
    rw [Cert.ReferenceIdeal.Lru.mix_at m' c a t k hk, e]
    refine (Cert.KernelIdeal.Lru.mix_at m c a t k hk).symm.trans ?_
    exact (if_pos ⟨Nat.zero_le _, a.isLt, Nat.zero_le _, t.isLt, Nat.zero_le _, hk⟩).symm
  · obtain ⟨a, t, k, rfl⟩ : ∃ (a : Fin 4) (t : Fin 1) (k : Fin 1024), i = ix3 a t k := ⟨_, _, _, eq_ix3 i⟩
    rw [Cert.ReferenceIdeal.Lru.last_at, e]
    exact (Cert.KernelIdeal.Lru.last_at m c a t k).symm
  · obtain ⟨a, t, k, rfl⟩ : ∃ (a : Fin 4) (t : Fin 8) (k : Fin 1024), i = ix3 a t k := ⟨_, _, _, eq_ix3 i⟩
    have ht := Cert.On_written.row_of _ _ _ _ _ _ _ _ _ _ hi
    rw [Cert.ReferenceIdeal.Lru.rows_at _ _ _ _ _ ht, e]
    exact (Cert.KernelIdeal.Lru.rows_at m c a t k ht).symm

end Cert.Proof.Lru
-- ==== Proof.Post.Spec.lean ====
module

public import Idealize.ShloMosaic.Lib.Pointwise

@[expose] public section

/-! The second half of a layer, entry by entry: the output projection, its norm and the residual, the gated per-layer
    embedding, its norm and the second residual. -/

open Idealize.ShloMosaic

noncomputable section

namespace Cert.PostSpec

/-- What a row is divided by, as a factor. -/
def scale (v : Fin 4096 → EReal) : EReal :=
  Ideal.rsqrt (Ideal.div (∑ j, v j * v j) (Ideal.ofBits .f32 0x45800000#32) + Ideal.ofBits .f32 0x358637BD#32)

/-- A row divided by its root mean square. -/
def rms (v : Fin 4096 → EReal) (j : Fin 4096) : EReal := v j * scale v

/-- A residual row plus the normed and weighted row. -/
def addNormed (h v g : Fin 4096 → EReal) (j : Fin 4096) : EReal := h j + rms v j * g j

/-- A row times a matrix. -/
def rowDot {n : ℕ} (v : Fin n → EReal) (w : FVec Ideal ⟨2, ![n, 4096]⟩ .f32) (j : Fin 4096) : EReal :=
  ∑ k, v k * w (ix2 k j)

/-- The arguments. -/
structure Args where
  h : FVec Ideal ⟨3, ![4, 2048, 4096]⟩ .f32
  mix : FVec Ideal ⟨3, ![4, 2048, 4096]⟩ .f32
  p : FVec Ideal ⟨3, ![4, 2048, 256]⟩ .f32
  wo : FVec Ideal ⟨2, ![4096, 4096]⟩ .f32
  gPost : FVec Ideal ⟨1, ![4096]⟩ .f32
  proj : FVec Ideal ⟨2, ![256, 4096]⟩ .f32
  gate : FVec Ideal ⟨2, ![4096, 4096]⟩ .f32
  gPle : FVec Ideal ⟨1, ![4096]⟩ .f32

variable (A : Args) (b : Fin 4) (t : Fin 2048)

/-- The projected mix. -/
def mixed : Fin 4096 → EReal := rowDot (fun k => A.mix (ix3 b t k)) A.wo

/-- The residual stream after the mixers. -/
def mid : Fin 4096 → EReal := addNormed (fun j => A.h (ix3 b t j)) (mixed A b t) fun j => A.gPost (ix1 j)

/-- The embedding's gate before its logistic. -/
def pre : Fin 4096 → EReal := rowDot (rms (mid A b t)) A.gate

/-- The gated embedding. -/
def gated (j : Fin 4096) : EReal := rowDot (fun k => A.p (ix3 b t k)) A.proj j * Ideal.logistic (pre A b t j)

/-- The residual stream after the layer. -/
def out : Fin 4096 → EReal := addNormed (mid A b t) (gated A b t) fun j => A.gPle (ix1 j)

end Cert.PostSpec
-- ==== Proof.Post.Pays.lean ====
module

public import proofs.«01_k».proof.Proof.Gen.PostIdeal.Frame
public import proofs.«01_k».proof.Proof.Post.Spec
public import Idealize.ShloMosaic.Lib.Pointwise

@[expose] public section

/-! What the four bodies store, entry by entry, of the blocks that they read. -/

open Idealize.ShloMosaic Idealize.ShloMosaic.TcCoe Idealize.SL Idealize.SL.Sem

set_option maxRecDepth 16384

noncomputable section

namespace Cert.PostIdeal.Post
open Cert.PostIdeal Cert.PostIdeal.Gen Cert.PostSpec

theorem pay0_at (x : Vec Ideal S1024x4096 .bf16) (w : Vec Ideal S4096x1024 .bf16) (r c : Fin 1024) :
    k0_pay1 (F := Ideal) x w (ix2 r c) = ∑ k : Fin 4096, x (ix2 r k) * w (ix2 k c) := by
  pointwise [k0_pay1]

theorem pay2_at (x : Vec Ideal S1024x4096 .bf16) (w : Vec Ideal S4096x1024 .bf16) (r c : Fin 1024) :
    k2_pay1 (F := Ideal) x w (ix2 r c) = ∑ k : Fin 4096, x (ix2 r k) * w (ix2 k c) := by
  pointwise [k2_pay1]

theorem pay1_at (v : Vec Ideal S256x4096 .bf16) (h : Vec Ideal S256x4096 .f32) (g : Vec Ideal S1x4096 .f32) (r : Fin 256) (c : Fin 4096) :
    k1_pay1 (F := Ideal) v h g (ix2 r c) = addNormed (fun j => h (ix2 r j)) (fun j => v (ix2 r j)) (fun j => g (ix2 0 j)) c := by
  pointwise [k1_pay1]
  rfl

theorem pay1n_at (v : Vec Ideal S256x4096 .bf16) (h : Vec Ideal S256x4096 .f32) (g : Vec Ideal S1x4096 .f32) (r : Fin 256) (c : Fin 4096) :
    k1_pay2 (F := Ideal) v h g (ix2 r c) = rms (addNormed (fun j => h (ix2 r j)) (fun j => v (ix2 r j)) (fun j => g (ix2 0 j))) c := by
  rw [← show (fun j => k1_pay1 (F := Ideal) v h g (ix2 r j)) = _ from funext fun j => pay1_at v h g r j]
  unfold k1_pay2
  generalize k1_pay1 (F := Ideal) v h g = y
  pointwise []
  rfl

theorem pay3_at (p : Vec Ideal S256x256 .bf16) (w : Vec Ideal S1x256x4096 .bf16) (q : Vec Ideal S256x4096 .bf16)
    (h : Vec Ideal S256x4096 .f32) (g : Vec Ideal S1x4096 .f32) (r : Fin 256) (c : Fin 4096) :
    k3_pay1 (F := Ideal) p w q h g (ix2 r c) = addNormed (fun j => h (ix2 r j))
      (fun j => (∑ k : Fin 256, p (ix2 r k) * w (ix3 0 k j)) * Ideal.logistic (q (ix2 r j))) (fun j => g (ix2 0 j)) c := by
  pointwise [k3_pay1]
  rfl

end Cert.PostIdeal.Post
-- ==== Proof.Post.Arrays.lean ====
module

public import proofs.«01_k».proof.Proof.Post.Pays
public import Idealize.ShloMosaic.Lib.Pipeline.ReadBack
public import Idealize.ShloMosaic.Lib.Pipeline.ValueKit

@[expose] public section

/-! What each of the four calls leaves in its result arrays, entry by entry, of the arrays it is entered with. -/

open Idealize.ShloMosaic Idealize.ShloMosaic.TcCoe Idealize.SL Idealize.SL.Sem

set_option maxRecDepth 16384

noncomputable section

namespace Cert.PostIdeal.Post
open Cert.PostIdeal Cert.PostIdeal.Gen Cert.PostSpec

variable (V : (c : Dev nD) → (b : Ref sig .tc) → Buf (Elt Ideal) ((c : Thread nD τ).loc b)) (c : Dev nD)

/-- An index of an array of two axes by its two coordinates. -/
theorem ix_two {n k : ℕ} (y : (⟨2, ![n, k]⟩ : Shape).Idx) : y = ix2 (y 0) (y 1) := by
  funext a
  match a with
  | ⟨0, _⟩ => rfl
  | ⟨1, _⟩ => rfl

/-- A product of matrices. -/
def matProd (x : Vec Ideal S8192x4096 .bf16) (w : Vec Ideal S4096x4096 .bf16) : Vec Ideal S8192x4096 .bf16 :=
  fun y => ∑ k : Fin 4096, x (ix2 (y 0) k) * w (ix2 k (y 1))

theorem idx0_0 : ∀ t : Fin cfg0.N, win0_0.index t = ![(grid0.coords t 0).val, 0] := (by decide +kernel : ∀ t : Fin grid0.N, _)
theorem idx0_1 : ∀ t : Fin cfg0.N, win0_1.index t = ![0, (grid0.coords t 1).val] := (by decide +kernel : ∀ t : Fin grid0.N, _)
theorem idx0_2 : ∀ t : Fin cfg0.N, win0_2.index t = ![(grid0.coords t 0).val, (grid0.coords t 1).val] := (by decide +kernel : ∀ t : Fin grid0.N, _)

/-- The first call is a product of matrices. -/
theorem arr0 : (dat0 (F := Ideal) V c).arrAt 2 cfg0.N = matProd (V c main_v1) (V c main_v2) := by
  refine (dat0 V c).arrAt_eq_of_covers 2 _ (by decide +kernel) fun t hf y => ?_
  blk_simp
  rw [after0_2]
  frame_out
  rw [ix_two y]
  refine (pay0_at _ _ _ _).trans ?_
  refine Finset.sum_congr rfl fun k _ => ?_
  refine congrArg₂ (· * ·) ?_ ?_
  · blk_simp [iblk0]
    refine congrArg (V c main_v1) ?_
    blk_ext [idx0_0 t, idx0_2 t]
  · blk_simp [iblk0]
    refine congrArg (V c main_v2) ?_
    blk_ext [idx0_1 t, idx0_2 t]

theorem idx2_0 : ∀ t : Fin cfg2.N, win2_0.index t = ![(grid2.coords t 0).val, 0] := (by decide +kernel : ∀ t : Fin grid2.N, _)
theorem idx2_1 : ∀ t : Fin cfg2.N, win2_1.index t = ![0, (grid2.coords t 1).val] := (by decide +kernel : ∀ t : Fin grid2.N, _)
theorem idx2_2 : ∀ t : Fin cfg2.N, win2_2.index t = ![(grid2.coords t 0).val, (grid2.coords t 1).val] := (by decide +kernel : ∀ t : Fin grid2.N, _)

/-- So is the third. -/
theorem arr2 : (dat2 (F := Ideal) V c).arrAt 2 cfg2.N = matProd (V c main_v6_1) (V c main_v7) := by
  refine (dat2 V c).arrAt_eq_of_covers 2 _ (by decide +kernel) fun t hf y => ?_
  blk_simp
  rw [after2_2]
  frame_out
  rw [ix_two y]
  refine (pay2_at _ _ _ _).trans ?_
  refine Finset.sum_congr rfl fun k _ => ?_
  refine congrArg₂ (· * ·) ?_ ?_
  · blk_simp [iblk2]
    refine congrArg (V c main_v6_1) ?_
    blk_ext [idx2_0 t, idx2_2 t]
  · blk_simp [iblk2]
    refine congrArg (V c main_v7) ?_
    blk_ext [idx2_1 t, idx2_2 t]

theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![t.val, 0] := (by decide +kernel : ∀ t : Fin grid1.N, _)
theorem idx1_4 : ∀ t : Fin cfg1.N, win1_4.index t = ![t.val, 0] := (by decide +kernel : ∀ t : Fin grid1.N, _)

/-- A row of the residual stream after the second call. -/
def midRow (h : Vec Ideal S8192x4096 .f32) (v : Vec Ideal S8192x4096 .bf16) (g : Vec Ideal S1x4096 .f32) (i : Fin 8192) : Fin 4096 → EReal :=
  addNormed (fun j => h (ix2 i j)) (fun j => v (ix2 i j)) fun j => g (ix2 0 j)

/-- A row of the block that window 0 of call 1 reads. -/
theorem blk1_0 (t : Fin cfg1.N) (r : Fin 256) (j : Fin 4096) (i : Fin 8192) (hi : i.val = t.val * 256 + r.val) :
    iblk1 V c 0 t (ix2 r j) = V c main_v4 (ix2 i j) := by
  blk_simp [iblk1]
  refine congrArg (V c main_v4) ?_
  blk_ext [idx1_0 t]

/-- A row of the block that window 1 of call 1 reads. -/
theorem blk1_1 (t : Fin cfg1.N) (r : Fin 256) (j : Fin 4096) (i : Fin 8192) (hi : i.val = t.val * 256 + r.val) :
    iblk1 V c 1 t (ix2 r j) = V c main_v3 (ix2 i j) := by
  blk_simp [iblk1]
  refine congrArg (V c main_v3) ?_
  blk_ext [idx1_1 t]

/-- The weights that window 2 of call 1 reads. -/
theorem blk1_2 (t : Fin cfg1.N) (j : Fin 4096) : iblk1 V c 2 t (ix2 0 j) = V c main_v5 (ix2 0 j) := by
  blk_simp [iblk1]
  refine congrArg (V c main_v5) ?_
  blk_ext [idx1_2 t]

/-- The second call's row of a block. -/
theorem row1 (t : Fin cfg1.N) (r : Fin 256) (i : Fin 8192) (hi : i.val = t.val * 256 + r.val) :
    addNormed (fun j => iblk1 V c 0 t (ix2 r j)) (fun j => iblk1 V c 1 t (ix2 r j)) (fun j => iblk1 V c 2 t (ix2 0 j)) =
      midRow (V c main_v4) (V c main_v3) (V c main_v5) i := by
  unfold midRow
  refine congr (congrArg₂ addNormed ?_ ?_) ?_
  · exact funext fun j => blk1_0 V c t r j i hi
  · exact funext fun j => blk1_1 V c t r j i hi
  · exact funext fun j => blk1_2 V c t j

/-- The second call's first result. -/
theorem arr1 : (dat1 (F := Ideal) V c).arrAt 3 cfg1.N = fun y => midRow (V c main_v4) (V c main_v3) (V c main_v5) (y 0) (y 1) := by
  refine (dat1 V c).arrAt_eq_of_covers 3 _ (by decide +kernel) fun t hf y => ?_
  blk_simp
  rw [after1_3]
  frame_out
  rw [ix_two y]
  refine (pay1_at _ _ _ _ _).trans ?_
  refine congr (row1 V c t (y 0) _ ?_) ?_
  · blk_simp [idx1_3 t]
  · refine Fin.ext ?_
    blk_simp [idx1_3 t]

/-- The second call's second result. -/
theorem arr1n : (dat1 (F := Ideal) V c).arrAt 4 cfg1.N = fun y => rms (midRow (V c main_v4) (V c main_v3) (V c main_v5) (y 0)) (y 1) := by
  refine (dat1 V c).arrAt_eq_of_covers 4 _ (by decide +kernel) fun t hf y => ?_
  blk_simp
  rw [after1_4]
  frame_out
  rw [ix_two y]
  refine (pay1n_at _ _ _ _ _).trans ?_
  refine congrArg₂ rms (row1 V c t (y 0) _ ?_) ?_
  · blk_simp [idx1_4 t]
  · refine Fin.ext ?_
    blk_simp [idx1_4 t]

end Cert.PostIdeal.Post
-- ==== Proof.Post.Last.lean ====
module

public import proofs.«01_k».proof.Proof.Post.Arrays

@[expose] public section

/-! What the last of the four calls leaves in its result array, entry by entry, of the arrays it is entered with. -/

open Idealize.ShloMosaic Idealize.ShloMosaic.TcCoe Idealize.SL Idealize.SL.Sem

set_option maxRecDepth 16384

noncomputable section

namespace Cert.PostIdeal.Post
open Cert.PostIdeal Cert.PostIdeal.Gen Cert.PostSpec

variable (V : (c : Dev nD) → (b : Ref sig .tc) → Buf (Elt Ideal) ((c : Thread nD τ).loc b)) (c : Dev nD)

theorem idx3_0 : ∀ t : Fin cfg3.N, win3_0.index t = ![t.val, 0] := (by decide +kernel : ∀ t : Fin grid3.N, _)
theorem idx3_1 : ∀ t : Fin cfg3.N, win3_1.index t = ![t.val, 0] := (by decide +kernel : ∀ t : Fin grid3.N, _)
theorem idx3_2 : ∀ t : Fin cfg3.N, win3_2.index t = ![0, 0, 0] := (by decide +kernel : ∀ t : Fin grid3.N, _)
theorem idx3_3 : ∀ t : Fin cfg3.N, win3_3.index t = ![t.val, 0] := (by decide +kernel : ∀ t : Fin grid3.N, _)
theorem idx3_4 : ∀ t : Fin cfg3.N, win3_4.index t = ![0, 0] := (by decide +kernel : ∀ t : Fin grid3.N, _)
theorem idx3_5 : ∀ t : Fin cfg3.N, win3_5.index t = ![t.val, 0] := (by decide +kernel : ∀ t : Fin grid3.N, _)

/-- A row of the block that window 0 of call 3 reads. -/
theorem blk3_0 (t : Fin cfg3.N) (r : Fin 256) (j : Fin 4096) (i : Fin 8192) (hi : i.val = t.val * 256 + r.val) :
    iblk3 V c 0 t (ix2 r j) = V c main_v6_0 (ix2 i j) := by
  blk_simp [iblk3]
  refine congrArg (V c main_v6_0) ?_
  blk_ext [idx3_0 t]

/-- A row of the block that window 1 of call 3 reads. -/
theorem blk3_1 (t : Fin cfg3.N) (r : Fin 256) (j : Fin 256) (i : Fin 8192) (hi : i.val = t.val * 256 + r.val) :
    iblk3 V c 1 t (ix2 r j) = V c main_v10 (ix2 i j) := by
  blk_simp [iblk3]
  refine congrArg (V c main_v10) ?_
  blk_ext [idx3_1 t]

/-- The weights that window 2 of call 3 reads. -/
theorem blk3_2 (t : Fin cfg3.N) (k : Fin 256) (j : Fin 4096) : iblk3 V c 2 t (ix3 0 k j) = V c main_v12 (ix3 0 k j) := by
  blk_simp [iblk3]
  refine congrArg (V c main_v12) ?_
  blk_ext [idx3_2 t]

/-- A row of the block that window 3 of call 3 reads. -/
theorem blk3_3 (t : Fin cfg3.N) (r : Fin 256) (j : Fin 4096) (i : Fin 8192) (hi : i.val = t.val * 256 + r.val) :
    iblk3 V c 3 t (ix2 r j) = V c main_v8 (ix2 i j) := by
  blk_simp [iblk3]
  refine congrArg (V c main_v8) ?_
  blk_ext [idx3_3 t]

/-- The weights that window 4 of call 3 reads. -/
theorem blk3_4 (t : Fin cfg3.N) (j : Fin 4096) : iblk3 V c 4 t (ix2 0 j) = V c main_v13 (ix2 0 j) := by
  blk_simp [iblk3]
  refine congrArg (V c main_v13) ?_
  blk_ext [idx3_4 t]

/-- A row of the last call's result. -/
def lastRow (h : Vec Ideal S8192x4096 .f32) (p : Vec Ideal S8192x256 .bf16) (w : Vec Ideal S1x256x4096 .bf16)
    (q : Vec Ideal S8192x4096 .bf16) (g : Vec Ideal S1x4096 .f32) (i : Fin 8192) : Fin 4096 → EReal :=
  addNormed (fun j => h (ix2 i j)) (fun j => (∑ k : Fin 256, p (ix2 i k) * w (ix3 0 k j)) * Ideal.logistic (q (ix2 i j))) fun j => g (ix2 0 j)

/-- The last call's row of a block. -/
theorem row3 (t : Fin cfg3.N) (r : Fin 256) (i : Fin 8192) (hi : i.val = t.val * 256 + r.val) :
    addNormed (fun j => iblk3 V c 0 t (ix2 r j))
      (fun j => (∑ k : Fin 256, HMul.hMul (α := EReal) (β := EReal) (iblk3 V c 1 t (ix2 r k)) (iblk3 V c 2 t (ix3 0 k j))) * Ideal.logistic (iblk3 V c 3 t (ix2 r j)))
      (fun j => iblk3 V c 4 t (ix2 0 j)) =
      lastRow (V c main_v6_0) (V c main_v10) (V c main_v12) (V c main_v8) (V c main_v13) i := by
  unfold lastRow
  refine congr (congrArg₂ addNormed ?_ ?_) ?_
  · exact funext fun j => blk3_0 V c t r j i hi
  · refine funext fun j => congrArg₂ (· * ·) (Finset.sum_congr rfl fun k _ => congrArg₂ (· * ·) ?_ ?_) (congrArg Ideal.logistic ?_)
    · exact blk3_1 V c t r k i hi
    · exact blk3_2 V c t k j
    · exact blk3_3 V c t r j i hi
  · exact funext fun j => blk3_4 V c t j

set_option maxHeartbeats 1000000 in
/-- The last call's result. -/
theorem arr3 : (dat3 (F := Ideal) V c).arrAt 5 cfg3.N =
    fun y => lastRow (V c main_v6_0) (V c main_v10) (V c main_v12) (V c main_v8) (V c main_v13) (y 0) (y 1) := by
  refine (dat3 V c).arrAt_eq_of_covers 5 _ (by decide +kernel) fun t hf y => ?_
  blk_simp
  rw [after3_5]
  frame_out
  rw [ix_two y]
  refine (pay3_at _ _ _ _ _ _ _).trans ?_
  refine congr (row3 V c t (y 0) _ ?_) ?_
  · blk_simp [idx3_5 t]
  · refine Fin.ext ?_
    blk_simp [idx3_5 t]

end Cert.PostIdeal.Post
-- ==== Proof.Post.KernelValue.lean ====
module

public import proofs.«01_k».proof.Proof.Post.Last
public import Idealize.ShloMosaic.Lib.StableHlo.Run

@[expose] public section

/-! What the kernel's result array ends holding, entry by entry: the contents at each boundary, read back to the arguments. -/

open Idealize.ShloMosaic Idealize.ShloMosaic.TcCoe Idealize.SL Idealize.SL.Sem Idealize.ShloMosaic.StableHlo

set_option maxRecDepth 16384

noncomputable section

namespace Cert.PostIdeal.Post
open Cert.PostIdeal Cert.PostIdeal.Gen Cert.PostSpec

variable (m : (l : Loc nD τ sig) → Buf (Elt Ideal) l) (ρ : Dev nD → PrngReg) (c : Dev nD)

/-- The kernel's arguments. -/
def argsK : Args where
  h := m (c.tc.loc main_arg0)
  mix := m (c.tc.loc main_arg1)
  p := m (c.tc.loc main_arg2)
  wo := m (c.tc.loc main_arg3)
  gPost := m (c.tc.loc main_arg4)
  proj := m (c.tc.loc main_arg5)
  gate := m (c.tc.loc main_arg6)
  gPle := m (c.tc.loc main_arg7)

variable (b : Fin 4) (t : Fin 2048) (i : Fin 8192)

/-- A row of a flattened array. -/
theorem flat_ix {n : ℕ} (hi : i.val = b.val * 2048 + t.val) (h₁ : i.val / 2048 < 4) (h₂ : i.val % 2048 < 2048) (k : Fin n) :
    ix3 (⟨i.val / 2048, h₁⟩ : Fin 4) (⟨i.val % 2048, h₂⟩ : Fin 2048) k = ix3 b t k :=
  congrArg₂ (fun b t => ix3 b t k) (Fin.ext (by show i.val / 2048 = b.val; omega)) (Fin.ext (by show i.val % 2048 = t.val; omega))

/-- The mix that the first call reads. -/
theorem v1_at (hi : i.val = b.val * 2048 + t.val) (k : Fin 4096) : V1 m ρ c main_v1 (ix2 i k) = (argsK m c).mix (ix3 b t k) := by
  change StableHlo.after hostOps0 (W0 m ρ c) _ _ = _
  after_results
  simp only [StableHlo.TRef.ofBuf, StableHlo.TRef.toBuf, cast_eq]
  pointwise []
  exact congrArg (argsK m c).mix (flat_ix b t i hi _ _ k)

theorem v2_at (k j : Fin 4096) : V1 m ρ c main_v2 (ix2 k j) = (argsK m c).wo (ix2 k j) := by
  change StableHlo.after hostOps0 (W0 m ρ c) _ _ = _
  after_results
  pointwise []
  rfl

/-- The second call reads the projected mix. -/
theorem v3_at (hi : i.val = b.val * 2048 + t.val) (j : Fin 4096) : V3 m ρ c main_v3 (ix2 i j) = mixed (argsK m c) b t j := by
  have e : V3 m ρ c main_v3 = matProd (V1 m ρ c main_v1) (V1 m ρ c main_v2) :=
    (W3_of m ρ c main_v3 (by decide)).trans ((W2_arr m ρ c 2).trans (arr0 (V1 m ρ) c))
  rw [e]
  exact Finset.sum_congr (M := EReal) rfl fun k _ => congrArg₂ (HMul.hMul (α := EReal) (β := EReal)) (v1_at m ρ c b t i hi k) (v2_at m ρ c k j)

theorem v4_at (hi : i.val = b.val * 2048 + t.val) (k : Fin 4096) : V3 m ρ c main_v4 (ix2 i k) = (argsK m c).h (ix3 b t k) := by
  have e := W2_args m ρ c main_arg0 (by decide)
  change StableHlo.after hostOps1 (W2 m ρ c) _ _ = _
  after_results
  simp only [StableHlo.TRef.ofBuf, StableHlo.TRef.toBuf, cast_eq]
  pointwise []
  rw [e]
  exact congrArg (argsK m c).h (flat_ix b t i hi _ _ k)

theorem v5_at (k : Fin 4096) : V3 m ρ c main_v5 (ix2 0 k) = (argsK m c).gPost (ix1 k) := by
  have e := W2_args m ρ c main_arg4 (by decide)
  change StableHlo.after hostOps1 (W2 m ρ c) _ _ = _
  after_results
  pointwise []
  rw [e]
  rfl

/-- The second call's row is the residual stream after the mixers. -/
theorem mid_eq (hi : i.val = b.val * 2048 + t.val) :
    midRow (V3 m ρ c main_v4) (V3 m ρ c main_v3) (V3 m ρ c main_v5) i = mid (argsK m c) b t := by
  unfold midRow mid
  refine congr (congrArg₂ addNormed ?_ ?_) ?_
  · exact funext fun j => v4_at m ρ c b t i hi j
  · exact funext fun j => v3_at m ρ c b t i hi j
  · exact funext fun j => v5_at m ρ c j

/-- The third call reads its norm. -/
theorem v6n_at (hi : i.val = b.val * 2048 + t.val) (j : Fin 4096) : V5 m ρ c main_v6_1 (ix2 i j) = rms (mid (argsK m c) b t) j := by
  have e : V5 m ρ c main_v6_1 = fun y => rms (midRow (V3 m ρ c main_v4) (V3 m ρ c main_v3) (V3 m ρ c main_v5) (y 0)) (y 1) :=
    (W5_of m ρ c main_v6_1 (by decide)).trans ((W4_arr m ρ c 4).trans (arr1n (V3 m ρ) c))
  rw [e]
  exact congrArg (fun v => rms v j) (mid_eq m ρ c b t i hi)

theorem v7_at (k j : Fin 4096) : V5 m ρ c main_v7 (ix2 k j) = (argsK m c).gate (ix2 k j) := by
  have e := W4_args m ρ c main_arg6 (by decide)
  change StableHlo.after hostOps2 (W4 m ρ c) _ _ = _
  after_results
  pointwise []
  rw [e]
  rfl

/-- The last call reads the residual stream after the mixers. -/
theorem v6_at (hi : i.val = b.val * 2048 + t.val) (j : Fin 4096) : V7 m ρ c main_v6_0 (ix2 i j) = mid (argsK m c) b t j := by
  have e : V7 m ρ c main_v6_0 = fun y => midRow (V3 m ρ c main_v4) (V3 m ρ c main_v3) (V3 m ρ c main_v5) (y 0) (y 1) :=
    (W7_of m ρ c main_v6_0 (by decide)).trans ((W6_of m ρ c main_v6_0 (by decide)).trans
      ((W5_of m ρ c main_v6_0 (by decide)).trans ((W4_arr m ρ c 3).trans (arr1 (V3 m ρ) c))))
  rw [e]
  exact congrFun (mid_eq m ρ c b t i hi) j

/-- And the gate before its logistic. -/
theorem v8_at (hi : i.val = b.val * 2048 + t.val) (j : Fin 4096) : V7 m ρ c main_v8 (ix2 i j) = pre (argsK m c) b t j := by
  have e : V7 m ρ c main_v8 = matProd (V5 m ρ c main_v6_1) (V5 m ρ c main_v7) :=
    (W7_of m ρ c main_v8 (by decide)).trans ((W6_arr m ρ c 2).trans (arr2 (V5 m ρ) c))
  rw [e]
  exact Finset.sum_congr (M := EReal) rfl fun k _ => congrArg₂ (HMul.hMul (α := EReal) (β := EReal)) (v6n_at m ρ c b t i hi k) (v7_at m ρ c k j)

theorem v10_at (hi : i.val = b.val * 2048 + t.val) (k : Fin 256) : V7 m ρ c main_v10 (ix2 i k) = (argsK m c).p (ix3 b t k) := by
  have e := W6_args m ρ c main_arg2 (by decide)
  change StableHlo.after hostOps3 (W6 m ρ c) _ _ = _
  after_results
  simp only [StableHlo.TRef.ofBuf, StableHlo.TRef.toBuf, cast_eq]
  pointwise []
  rw [e]
  exact congrArg (argsK m c).p (flat_ix b t i hi _ _ k)

theorem v12_at (k : Fin 256) (j : Fin 4096) : V7 m ρ c main_v12 (ix3 0 k j) = (argsK m c).proj (ix2 k j) := by
  have e := W6_args m ρ c main_arg5 (by decide)
  change StableHlo.after hostOps3 (W6 m ρ c) _ _ = _
  after_results
  pointwise []
  rw [e]
  rfl

theorem v13_at (j : Fin 4096) : V7 m ρ c main_v13 (ix2 0 j) = (argsK m c).gPle (ix1 j) := by
  have e := W6_args m ρ c main_arg7 (by decide)
  change StableHlo.after hostOps3 (W6 m ρ c) _ _ = _
  after_results
  pointwise []
  rw [e]
  rfl

/-- The result array at an entry. -/
theorem result_at (hi : i.val = b.val * 2048 + t.val) (j : Fin 4096) :
    W8 m ρ c (Proc.devRef .tc main_v14) (ix2 i j) = out (argsK m c) b t j := by
  have e : W8 m ρ c (Proc.devRef .tc main_v14) = fun y => lastRow (V7 m ρ c main_v6_0) (V7 m ρ c main_v10) (V7 m ρ c main_v12)
      (V7 m ρ c main_v8) (V7 m ρ c main_v13) (y 0) (y 1) := (W8_arr m ρ c 5).trans (arr3 (V7 m ρ) c)
  rw [e]
  refine congrFun (?_ : lastRow _ _ _ _ _ i = _) j
  unfold lastRow out
  refine congr (congrArg₂ addNormed ?_ ?_) ?_
  · exact funext fun j => v6_at m ρ c b t i hi j
  · refine funext fun j => congrArg₂ (· * ·) (Finset.sum_congr rfl fun k _ => congrArg₂ (· * ·) ?_ ?_) (congrArg Ideal.logistic ?_)
    · exact v10_at m ρ c b t i hi k
    · exact v12_at m ρ c k j
    · exact v8_at m ρ c b t i hi j
  · exact funext fun j => v13_at m ρ c j

end Cert.PostIdeal.Post
-- ==== Proof.Post.RefValue.lean ====
module

public import proofs.«01_k».proof.Proof.Gen.PostRefIdeal.Run
public import proofs.«01_k».proof.Proof.Post.Spec
public import Idealize.ShloMosaic.Lib.Pointwise

@[expose] public section

/-! The reference's result, entry by entry: the reference is cut into its norms and its gate, each read at an entry. -/

open Idealize.ShloMosaic Idealize.ShloMosaic.TcCoe Idealize.SL Idealize.SL.Sem Idealize.ShloMosaic.StableHlo

set_option maxRecDepth 16384

noncomputable section

namespace Cert.PostRefIdeal.Post
open Cert.PostRefIdeal Cert.PostRefIdeal.Gen Cert.PostRefIdeal.Value Cert.PostSpec

/-- The reference's norm of an array's rows. -/
def normed (x : FVec Ideal S4x2048x4096 .f32) : FVec Ideal S4x2048x4096 .f32 :=
  mulf x (broadcastInDim S4x2048x4096 ![0, 1, 2] bcast_S4x2048x1_S4x2048x4096_0_1_2
    (Host.rsqrt (addf (Host.divf (broadcastInDim S4x2048x1 ![0, 1] bcast_S4x2048_S4x2048x1_0_1
      (Host.reduceAdd (mulf x x) (constant S_ .f32 0x00000000#32) reducesTo_S4x2048x4096_S4x2048_d2 h_S_))
      (broadcastInDim S4x2048x1 ![] bcast_S_S4x2048x1 (constant S_ .f32 0x45800000#32)))
      (broadcastInDim S4x2048x1 ![] bcast_S_S4x2048x1 (constant S_ .f32 0x358637BD#32)))))

/-- The reference's residual step. -/
def stepped (h v : FVec Ideal S4x2048x4096 .f32) (g : FVec Ideal S4096 .f32) : FVec Ideal S4x2048x4096 .f32 :=
  addf h (mulf (normed v) (broadcastInDim S4x2048x4096 ![0, 1, 2] bcast_S1x1x4096_S4x2048x4096_0_1_2
    (broadcastInDim S1x1x4096 ![2] bcast_S4096_S1x1x4096_2 g)))

/-- The reference's product with a square matrix. -/
def times (x : FVec Ideal S4x2048x4096 .f32) (w : FVec Ideal S4096x4096 .f32) : FVec Ideal S4x2048x4096 .f32 :=
  Host.dotGeneral dot_S4x2048x4096_S4096x4096_S4x2048x4096_2_0_01_1_n_n none x w

/-- The reference's gated embedding. -/
def gatedT (p : FVec Ideal S4x2048x256 .f32) (w : FVec Ideal S256x4096 .f32) (q : FVec Ideal S4x2048x4096 .f32) : FVec Ideal S4x2048x4096 .f32 :=
  mulf (Host.dotGeneral dot_S4x2048x256_S256x4096_S4x2048x4096_2_0_01_1_n_n none p w)
    (Host.divf (broadcastInDim S4x2048x4096 ![] bcast_S_S4x2048x4096 (constant S_ .f32 0x3F800000#32))
      (addf (broadcastInDim S4x2048x4096 ![] bcast_S_S4x2048x4096 (constant S_ .f32 0x3F800000#32)) (Host.exp (Host.negf q))))

theorem normed_at (x : FVec Ideal S4x2048x4096 .f32) (b : Fin 4) (t : Fin 2048) (j : Fin 4096) :
    normed x (ix3 b t j) = rms (fun k => x (ix3 b t k)) j := by
  pointwise [normed]
  rfl

theorem stepped_at (h v : FVec Ideal S4x2048x4096 .f32) (g : FVec Ideal S4096 .f32) (b : Fin 4) (t : Fin 2048) (j : Fin 4096) :
    stepped h v g (ix3 b t j) = addNormed (fun k => h (ix3 b t k)) (fun k => v (ix3 b t k)) (fun k => g (ix1 k)) j := by
  have e := normed_at v b t j
  unfold stepped
  revert e
  generalize normed v = y
  intro e
  pointwise []
  rw [e]
  rfl

theorem times_at (x : FVec Ideal S4x2048x4096 .f32) (w : FVec Ideal S4096x4096 .f32) (b : Fin 4) (t : Fin 2048) (j : Fin 4096) :
    times x w (ix3 b t j) = rowDot (fun k => x (ix3 b t k)) w j := by
  pointwise [times]
  rfl

theorem gatedT_at (p : FVec Ideal S4x2048x256 .f32) (w : FVec Ideal S256x4096 .f32) (q : FVec Ideal S4x2048x4096 .f32) (b : Fin 4)
    (t : Fin 2048) (j : Fin 4096) :
    gatedT p w q (ix3 b t j) = rowDot (fun k => p (ix3 b t k)) w j * Ideal.logistic (q (ix3 b t j)) := by
  pointwise [gatedT]
  rfl

variable (m : (l : Loc nD τ sig) → Buf (Elt Ideal) l) (c : Dev nD)

/-- The reference's arguments. -/
def argsR : Args where
  h := m (c.tc.loc main_arg0)
  mix := m (c.tc.loc main_arg1)
  p := m (c.tc.loc main_arg2)
  wo := m (c.tc.loc main_arg3)
  gPost := m (c.tc.loc main_arg4)
  proj := m (c.tc.loc main_arg5)
  gate := m (c.tc.loc main_arg6)
  gPle := m (c.tc.loc main_arg7)

/-- The reference's residual stream after the mixers. -/
def midT (A : Args) : FVec Ideal S4x2048x4096 .f32 := stepped A.h (times A.mix A.wo) A.gPost

/-- The reference's residual stream after the layer. -/
def outT (A : Args) : FVec Ideal S4x2048x4096 .f32 :=
  stepped (midT A) (gatedT A.p A.proj (times (normed (midT A)) A.gate)) A.gPle

theorem midT_at (A : Args) (b : Fin 4) (t : Fin 2048) (j : Fin 4096) : midT A (ix3 b t j) = mid A b t j := by
  refine (stepped_at _ _ _ b t j).trans ?_
  rw [show (fun k => times A.mix A.wo (ix3 b t k)) = mixed A b t from funext fun k => times_at _ _ b t k]
  rfl

theorem outT_at (A : Args) (b : Fin 4) (t : Fin 2048) (j : Fin 4096) : outT A (ix3 b t j) = out A b t j := by
  have e₁ : (fun k => midT A (ix3 b t k)) = mid A b t := funext fun k => midT_at A b t k
  have e₂ : (fun k => normed (midT A) (ix3 b t k)) = rms (mid A b t) :=
    funext fun k => (normed_at _ b t k).trans (congrArg (fun v => rms v k) e₁)
  have e₃ : ∀ k, times (normed (midT A)) A.gate (ix3 b t k) = pre A b t k :=
    fun k => (times_at _ _ b t k).trans (congrArg (fun v => rowDot v A.gate k) e₂)
  have e₄ : (fun k => gatedT A.p A.proj (times (normed (midT A)) A.gate) (ix3 b t k)) = gated A b t :=
    funext fun k => (gatedT_at _ _ _ b t k).trans (congrArg (fun x => _ * Ideal.logistic x) (e₃ k))
  refine (stepped_at _ _ _ b t j).trans ?_
  rw [e₁, e₄]
  rfl

theorem res_eq : res_main_v48 m c = shapeCast _ (outT (argsR m c)) shapeCasts_S4x2048x4096_S8192x4096 := rfl

/-- The reference's result at an entry. -/
theorem res_at (b : Fin 4) (t : Fin 2048) (i : Fin 8192) (hi : i.val = b.val * 2048 + t.val) (j : Fin 4096) :
    res_main_v48 m c (ix2 i j) = out (argsR m c) b t j := by
  rw [← outT_at, res_eq]
  generalize outT (argsR m c) = y
  pointwise []
  exact congrArg y (congrArg₂ (fun b t => ix3 b t j) (Fin.ext (by show i.val / 2048 = b.val; omega)) (Fin.ext (by show i.val % 2048 = t.val; omega)))

end Cert.PostRefIdeal.Post
-- ==== Proof.Post.Run.lean ====
module

public import proofs.«01_k».proof.Proof.Gen.PostIdeal.Frame

@[expose] public section

/-! The run of the four calls, with what the last result array ends holding: its contents at the last boundary. -/

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

set_option maxRecDepth 16384

noncomputable section

namespace Cert.PostIdeal.Post
open Cert.PostIdeal Cert.PostIdeal.Gen

variable {F : FTy → Type} [FloatOps F]
variable (m : (ℓ : Loc nD τ sig) → Buf (Elt F) ℓ) (ρ : Dev nD → PrngReg)

set_option backward.isDefEq.respectTransparency.types false in
/-- Every run ends with the arguments as launched, the result at the last boundary's contents and no semaphore raised. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_v14) = W8 m ρ c (Proc.devRef .tc main_v14))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨(h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       h c _ (mem_uc main_v14 (by decide))⟩), funext fun g => hz g (.inr (no_unscoped g.2))⟩)

end Cert.PostIdeal.Post
-- ==== Proof.Post.Claims.lean ====
module

public import proofs.«01_k».proof.Defs
public import proofs.«01_k».proof.Proof.Post.KernelValue
public import proofs.«01_k».proof.Proof.Post.RefValue
public import proofs.«01_k».proof.Proof.Post.Run
public import Idealize.ShloMosaic.Adequacy
public import Idealize.ShloMosaic.Init

@[expose] public section

/-! The claims about the layer's second half: the reference's frame, and both results compared entry by entry. -/

open Idealize.ShloMosaic Idealize.ShloMosaic.TcCoe Idealize.SL Idealize.SL.Sem

set_option maxRecDepth 16384

noncomputable section

namespace Cert.Proof.Post
open Cert.PostSpec

theorem frame_reference : Cert.quiescent_PostRefIdeal := fun m ρ _ =>
  (θ_run Cert.PostRefIdeal.defs _ _).mono (fun r h => ⟨fun c => (h c).2,
      Idealize.ShloMosaic.sem_eq_zero_of_no_sems (by decide) r.2⟩)
    (Cert.PostRefIdeal.Value.run (F := Ideal) m ρ)

theorem algebraic : Cert.algebraic_PostIdeal_PostRefIdeal := by
  intro m ρ m' ρ' _ hag
  have e (d : Dev Cert.PostIdeal.nD) : Cert.PostRefIdeal.Post.argsR m' d = Cert.PostIdeal.Post.argsK m d := by
    obtain ⟨g0, g1, g2, g3, g4, g5, g6, g7⟩ := hag d
    exact (Args.mk.injEq ..).mpr ⟨g0, g1, g2, g3, g4, g5, g6, g7⟩
  refine ⟨fun d => Cert.PostIdeal.Gen.W8 m ρ d (Proc.devRef .tc Cert.PostIdeal.main_v14),
    (θ_run Cert.PostIdeal.defs _ _).mono (fun r h c => ?_) (Cert.PostIdeal.Post.run (F := Ideal) m ρ),
    (θ_run Cert.PostRefIdeal.defs _ _).mono (fun r h c => ⟨(h c).1.trans (funext fun i => ?_), (h c).2⟩)
      (Cert.PostRefIdeal.Value.run (F := Ideal) m' ρ')⟩
  · obtain ⟨h0, h1, h2, h3, h4, h5, h6, h7, hv⟩ := h.1 c
    exact ⟨hv, h0, h1, h2, h3, h4, h5, h6, h7⟩
  · obtain ⟨a, k, rfl⟩ : ∃ (a : Fin 8192) (k : Fin 4096), i = ix2 a k := ⟨_, _, eq_ix2 i⟩
    have hi : a.val = (⟨a.val / 2048, by omega⟩ : Fin 4).val * 2048 + (⟨a.val % 2048, by omega⟩ : Fin 2048).val := by
      show a.val = a.val / 2048 * 2048 + a.val % 2048
      omega
    refine (Cert.PostRefIdeal.Post.res_at m' c _ _ a hi k).trans ?_
    rw [e]
    exact (Cert.PostIdeal.Post.result_at m ρ c _ _ a hi k).symm

end Cert.Proof.Post
-- ==== Proof.In.KernelValue.lean ====
module

public import proofs.«01_k».proof.Proof.Gen.InIdeal.Frame
public import Idealize.ShloMosaic.Lib.Pipeline.ReadBack
public import Idealize.ShloMosaic.Lib.Pipeline.ValueKit
public import Idealize.ShloMosaic.Lib.StableHlo.Run
public import Idealize.ShloMosaic.Lib.Pointwise

@[expose] public section

/-! The call of the input projection: each entry of its result is a row of the activations times a column of the weights,
    and the last token's channels are those entries read off it. -/

open Idealize.ShloMosaic Idealize.ShloMosaic.TcCoe Idealize.SL Idealize.SL.Sem Idealize.ShloMosaic.StableHlo

set_option maxRecDepth 16384

noncomputable section

namespace Cert.InIdeal.Proj
open Cert.InIdeal Cert.InIdeal.Gen

variable (m : (l : Loc nD τ sig) → Buf (Elt Ideal) l) (ρ : Dev nD → PrngReg) (c : Dev nD)

/-- The activations. -/
def xK : FVec Ideal S4x2048x4096 .f32 := m (c.tc.loc main_arg0)

/-- The weights. -/
def wK : FVec Ideal S4096x14336 .f32 := m (c.tc.loc main_arg1)

/-- The projection of a token to a channel. -/
def projK (b : Fin 4) (t : Fin 2048) (j : Fin 14336) : EReal := ∑ k : Fin 4096, xK m c (ix3 b t k) * wK m c (ix2 k j)

theorem pay_at (x : Vec Ideal S1024x4096 .bf16) (w : Vec Ideal S4096x1024 .bf16) (r j : Fin 1024) :
    k0_pay1 (F := Ideal) x w (ix2 r j) = ∑ k : Fin 4096, x (ix2 r k) * w (ix2 k j) := by
  pointwise [k0_pay1]

/-- The product that the call computes of the two arrays it is entered with. -/
def product (x : Vec Ideal S8192x4096 .bf16) (w : Vec Ideal S4096x14336 .bf16) : Vec Ideal S8192x14336 .f32 :=
  fun y => ∑ k : Fin 4096, x (ix2 (y 0) k) * w (ix2 k (y 1))

theorem idx_0 : ∀ t : Fin cfg0.N, win0_0.index t = ![(grid0.coords t 0).val, 0] := (by decide +kernel : ∀ t : Fin grid0.N, _)
theorem idx_1 : ∀ t : Fin cfg0.N, win0_1.index t = ![0, (grid0.coords t 1).val] := (by decide +kernel : ∀ t : Fin grid0.N, _)
theorem idx_2 : ∀ t : Fin cfg0.N, win0_2.index t = ![(grid0.coords t 0).val, (grid0.coords t 1).val] := (by decide +kernel : ∀ t : Fin grid0.N, _)

/-- The call leaves the product in its result array. -/
theorem arr : (dats (F := Ideal) m 0 c).arrAt 2 cfg0.N = product (V m c main_v1) (V m c main_v2) := by
  refine (dats m 0 c).arrAt_eq_of_covers 2 _ (by decide +kernel) fun t hf y => ?_
  blk_simp
  rw [after0_2]
  frame_out
  rw [eq_ix2 y]
  refine (pay_at _ _ _ _).trans ?_
  refine Finset.sum_congr rfl fun k _ => ?_
  refine congrArg₂ (· * ·) ?_ ?_
  · blk_simp [iblk]
    refine congrArg (V m c main_v1) ?_
    blk_ext [idx_0 t, idx_2 t]
  · blk_simp [iblk]
    refine congrArg (V m c main_v2) ?_
    blk_ext [idx_1 t, idx_2 t]

variable (b : Fin 4) (t : Fin 2048) (i : Fin 8192)

theorem v1_at (hi : i.val = b.val * 2048 + t.val) (k : Fin 4096) : V m c main_v1 (ix2 i k) = xK m c (ix3 b t k) := by
  change StableHlo.after hostOps0 (fun b => m (c, b)) _ _ = _
  after_results
  simp only [StableHlo.TRef.ofBuf, StableHlo.TRef.toBuf, cast_eq]
  pointwise []
  exact congrArg (xK m c) (congrArg₂ (fun b t => ix3 b t k) (Fin.ext (by show i.val / 2048 = b.val; omega)) (Fin.ext (by show i.val % 2048 = t.val; omega)))

theorem v2_at (k : Fin 4096) (j : Fin 14336) : V m c main_v2 (ix2 k j) = wK m c (ix2 k j) := by
  change StableHlo.after hostOps0 (fun b => m (c, b)) _ _ = _
  after_results
  pointwise []
  rfl

/-- The result array at an entry. -/
theorem result_at (hi : i.val = b.val * 2048 + t.val) (j : Fin 14336) :
    (dats (F := Ideal) m 0 c).arrAt 2 cfg0.N (ix2 i j) = projK m c b t j := by
  rw [arr]
  exact Finset.sum_congr (M := EReal) rfl fun k _ => congrArg₂ (HMul.hMul (α := EReal) (β := EReal)) (v1_at m c b t i hi k) (v2_at m c k j)

/-- What the lines after the call leave in the last token's array. -/
def lastK : Buf (Elt Ideal) ((c : Thread nD τ).loc main_v6) :=
  Pipeline.afterTail₀ cfgs (dats (F := Ideal) m) 0 (V0 m) [hostOps1] c main_v6

/-- The last token's channels, an entry of them. -/
theorem last_at (b : Fin 4) (j : Fin 4608) :
    lastK m c (ix2 b j) = projK m c b ⟨2047, by omega⟩ ⟨2048 + j.val, by omega⟩ := by
  rw [← result_at m c b ⟨2047, by omega⟩ ⟨b.val * 2048 + 2047, by omega⟩ rfl]
  have e := Pipeline.withArrays_arr (cfgs 0).spec (by decide) c (V0 m c) (fun w => (dats (F := Ideal) m 0 c).arrAt w (cfgs 0).N) 2
  change StableHlo.after hostOps1 (Pipeline.withArrays (cfgs 0).spec c (V0 m c) fun w => (dats (F := Ideal) m 0 c).arrAt w (cfgs 0).N) _ _ = _
  after_results
  simp only [StableHlo.TRef.ofBuf, StableHlo.TRef.toBuf, cast_eq]
  revert e
  generalize (dats (F := Ideal) m 0 c).arrAt 2 cfg0.N = y
  intro e
  pointwise []
  exact congrFun e _

end Cert.InIdeal.Proj
-- ==== Proof.In.RefValue.lean ====
module

public import proofs.«01_k».proof.Proof.Gen.InRefIdeal.Run
public import Idealize.ShloMosaic.Lib.Pointwise

@[expose] public section

/-! The reference's projection, entry by entry. -/

open Idealize.ShloMosaic Idealize.ShloMosaic.TcCoe Idealize.SL Idealize.SL.Sem Idealize.ShloMosaic.StableHlo

set_option maxRecDepth 16384

noncomputable section

namespace Cert.InRefIdeal.Proj
open Cert.InRefIdeal Cert.InRefIdeal.Gen

/-- The reference's projection of all tokens. -/
def zT (x : FVec Ideal S4x2048x4096 .f32) (w : FVec Ideal S4096x14336 .f32) : FVec Ideal S4x2048x14336 .f32 :=
  Host.dotGeneral dot_S4x2048x4096_S4096x14336_S4x2048x14336_2_0_01_1_n_n none x w

theorem zT_at (x : FVec Ideal S4x2048x4096 .f32) (w : FVec Ideal S4096x14336 .f32) (b : Fin 4) (t : Fin 2048) (j : Fin 14336) :
    zT x w (ix3 b t j) = ∑ k : Fin 4096, x (ix3 b t k) * w (ix2 k j) := by
  pointwise [zT]

/-- Its rows in one array, at an entry. -/
theorem rows_at (x : FVec Ideal S4x2048x4096 .f32) (w : FVec Ideal S4096x14336 .f32) (b : Fin 4) (t : Fin 2048) (i : Fin 8192)
    (hi : i.val = b.val * 2048 + t.val) (j : Fin 14336) :
    shapeCast S8192x14336 (zT x w) shapeCasts_S4x2048x14336_S8192x14336 (ix2 i j) = ∑ k : Fin 4096, x (ix3 b t k) * w (ix2 k j) := by
  rw [← zT_at]
  generalize zT x w = y
  pointwise []
  exact congrArg y (congrArg₂ (fun b t => ix3 b t j) (Fin.ext (by show i.val / 2048 = b.val; omega)) (Fin.ext (by show i.val % 2048 = t.val; omega)))

/-- The last token's channels, at an entry. -/
theorem last_at (x : FVec Ideal S4x2048x4096 .f32) (w : FVec Ideal S4096x14336 .f32) (b : Fin 4) (j : Fin 4608) :
    shapeCast S4x4608 (extractStridedSlice S4x1x4608 ![0, 2047, 0] (extractStridedSlice S4x2048x4608 ![0, 0, 2048] (zT x w)
      slices_S4x2048x14336_S4x2048x4608_0_0_2048) slices_S4x2048x4608_S4x1x4608_0_2047_0) shapeCasts_S4x1x4608_S4x4608 (ix2 b j) =
      ∑ k : Fin 4096, x (ix3 b ⟨2047, by omega⟩ k) * w (ix2 k ⟨2048 + j.val, by omega⟩) := by
  rw [← zT_at]
  generalize zT x w = y
  pointwise []

end Cert.InRefIdeal.Proj
-- ==== Proof.In.Claims.lean ====
module

public import proofs.«01_k».proof.Defs
public import proofs.«01_k».proof.Proof.In.KernelValue
public import proofs.«01_k».proof.Proof.In.RefValue
public import Idealize.ShloMosaic.Adequacy
public import Idealize.ShloMosaic.Init

@[expose] public section

/-! The claims about the input projection: the reference's frame, and both results compared entry by entry. -/

open Idealize.ShloMosaic Idealize.ShloMosaic.TcCoe Idealize.SL Idealize.SL.Sem Idealize.ShloMosaic.StableHlo

set_option maxRecDepth 16384

noncomputable section

namespace Cert.Proof.Proj

theorem frame_reference : Cert.quiescent_InRefIdeal := fun m ρ _ =>
  (θ_run Cert.InRefIdeal.defs _ _).mono (fun r h => ⟨fun c => (h c).2.2,
      Idealize.ShloMosaic.sem_eq_zero_of_no_sems (by decide) r.2⟩)
    (Cert.InRefIdeal.Value.run (F := Ideal) m ρ)

open Cert.InIdeal Cert.InIdeal.Gen Cert.InIdeal.Proj in
theorem algebraic : Cert.algebraic_InIdeal_InRefIdeal := by
  intro m ρ m' ρ' _ hag
  refine ⟨fun d => (dats (F := Ideal) m 0 d).arrAt 2 cfg0.N, fun d => lastK m d,
    (θ_run Cert.InIdeal.defs _ _).mono (fun r h c => ?_) (run_main (F := Ideal) m ρ),
    (θ_run Cert.InRefIdeal.defs _ _).mono (fun r h c => ⟨(h c).1.trans (funext fun i => ?_), (h c).2.1.trans (funext fun i => ?_), (h c).2.2⟩)
      (Cert.InRefIdeal.Value.run (F := Ideal) m' ρ')⟩
  · exact ⟨(h c).1 2, (h c).2 main_v6 (Pipeline.mem_restRefs_of main_v6 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩
  · obtain ⟨a, k, rfl⟩ : ∃ (a : Fin 8192) (k : Fin 14336), i = ix2 a k := ⟨_, _, eq_ix2 i⟩
    obtain ⟨g0, g1⟩ := hag c
    have hi : a.val = (⟨a.val / 2048, by omega⟩ : Fin 4).val * 2048 + (⟨a.val % 2048, by omega⟩ : Fin 2048).val := by
      show a.val = a.val / 2048 * 2048 + a.val % 2048
      omega
    rw [g0, g1]
    exact (Cert.InRefIdeal.Proj.rows_at _ _ _ _ a hi k).trans (result_at m c _ _ a hi k).symm
  · obtain ⟨b, k, rfl⟩ : ∃ (b : Fin 4) (k : Fin 4608), i = ix2 b k := ⟨_, _, eq_ix2 i⟩
    obtain ⟨g0, g1⟩ := hag c
    rw [g0, g1]
    exact (Cert.InRefIdeal.Proj.last_at _ _ b k).trans (last_at m c b k).symm

end Cert.Proof.Proj
-- ==== Proof.Norm.Cases.lean ====
module

public import proofs.«01_k».proof.Proof.Gen.NormIdeal.Value
public import proofs.«01_k».proof.Proof.Post.Spec
public import Idealize.ShloMosaic.Lib.Pointwise
public import Idealize.ShloMosaic.Lib.Pipeline.ValueKit
public import Idealize.ShloMosaic.Lib.Pipeline.ReadBack

@[expose] public section

/-! What each grid point of the pre-norm leaves: its block's rows normed and weighted, in two groups of 128 rows; the last
    point of a sequence also stores the last of those rows. -/

open Idealize.ShloMosaic Idealize.ShloMosaic.TcCoe Idealize.SL Idealize.SL.Sem

set_option maxRecDepth 16384

noncomputable section

namespace Cert.NormIdeal.Pre
open Cert.NormIdeal Cert.NormIdeal.Gen Cert.NormIdeal.Value Cert.PostSpec

theorem pay5_at (v : Vec Ideal S1x128x4096 .f32) (g : Vec Ideal S1x1x4096 .f32) (r : Fin 128) (j : Fin 4096) :
    k0_pay5 (F := Ideal) v g (ix3 0 r j) = rms (fun k => v (ix3 0 r k)) j * g (ix3 0 0 j) := by
  pointwise [k0_pay5, k0_pay4]
  rfl

theorem pay16_at (v : Vec Ideal S1x128x4096 .f32) (g : Vec Ideal S1x1x4096 .f32) (r : Fin 128) (j : Fin 4096) :
    k0_pay16 (F := Ideal) v g (ix3 0 r j) = rms (fun k => v (ix3 0 r k)) j * g (ix3 0 0 j) := by
  pointwise [k0_pay16]
  rfl

theorem pay18_at (v : Vec Ideal S1x128x4096 .f32) (g : Vec Ideal S1x1x4096 .f32) (r : Fin 128) (j : Fin 4096) :
    k0_pay18 (F := Ideal) v g (ix3 0 r j) = rms (fun k => v (ix3 0 r k)) j * g (ix3 0 0 j) := by
  rw [← pay16_at]
  unfold k0_pay18 k0_pay17
  generalize k0_pay16 (F := Ideal) v g = y
  pointwise []

theorem pay19_at (v : Vec Ideal S1x128x4096 .f32) (g : Vec Ideal S1x1x4096 .f32) (j : Fin 4096) :
    k0_pay19 (F := Ideal) v g (ix3 0 0 j) = rms (fun k => v (ix3 0 127 k)) j * g (ix3 0 0 j) := by
  rw [← pay16_at]
  unfold k0_pay19
  generalize k0_pay16 (F := Ideal) v g = y
  pointwise []

/-- A row of a block, normed and weighted. -/
def row (x : Vec Ideal S1x256x4096 .f32) (g : Vec Ideal S1x1x4096 .f32) (r : Fin 256) (j : Fin 4096) : EReal :=
  rms (fun k => x (ix3 0 r k)) j * g (ix3 0 0 j)

theorem idx_eq (x : S1x128x4096.Idx) : x = ix3 (0 : Fin 1) (x 1 : Fin 128) (x 2 : Fin 4096) := by
  funext a
  match a with
  | ⟨0, _⟩ => exact Fin.ext (Nat.lt_one_iff.mp (x 0).isLt)
  | ⟨1, _⟩ => rfl
  | ⟨2, _⟩ => rfl

/-- Rows read from a block from row `o` on, normed and weighted. -/
theorem row_of (o : ℕ) (X : Vec Ideal S1x256x4096 .f32) (g : Vec Ideal S1x1x4096 .f32)
    (inb : ∀ a, (![0, o, 0] : Fin 3 → ℕ) a + ![1, 128, 4096] a ≤ S1x256x4096.size a) (r : Fin 128) (j : Fin 4096) (s : Fin 256)
    (k : Fin 4096) (hs : s.val = o + r.val) (hk : k.val = j.val) :
    rms (fun k => View.ld X (Rect.unit (s := S1x256x4096) ![0, o, 0] ![1, 128, 4096] inb) (ix3 (0 : Fin 1) r k)) j * g (ix3 0 0 j) = row X g s k := by
  obtain rfl : k = j := Fin.ext hk
  unfold row
  refine congrArg (fun v => rms v k * g (ix3 0 0 k)) (funext fun i => ?_)
  refine View.ld_unit_apply_of X _ _ inb _ _ fun a => ?_
  match a with
  | ⟨0, _⟩ => rfl
  | ⟨1, _⟩ => exact hs
  | ⟨2, _⟩ => exact (Nat.zero_add _).symm

variable (m : (l : Loc nD τ sig) → Buf (Elt Ideal) l)

/-- What a point holds after its run. -/
abbrev Held := Vec Ideal S1x256x4096 .bf16 × Vec Ideal S1x256x1536 .f32 × Vec Ideal S1x256x1536 .f32 × Vec Ideal S1x1x4096 .f32 × Vec Ideal S1x1x256 .f32

variable (c : Dev nD) (t : Fin cfg0.N) (acc : Held)

theorem outA (h0 : t.val % 8 = 0) (h1 : ¬ t.val % 8 = 7) (y : S1x256x4096.Idx) :
    (stAt0 m c t.val t.isLt acc).1 y = row (iblk m c 0 t) (iblk m c 1 t) (y 1) (y 2) := by
  rw [stAt0_A m c t acc h0 h1]
  dsimp only
  unfold out0_A_8
  frame_out
  canon_tiles x h
  · rw [idx_eq x]
    exact (pay18_at _ _ _ _).trans (row_of 128 _ _ _ _ _ _ _ h1 h2)
  · rw [idx_eq x]
    exact (pay5_at _ _ _ _).trans (row_of 0 _ _ _ _ _ _ _ (h1.trans (Nat.zero_add _).symm) h2)

theorem outB (h0 : ¬ t.val % 8 = 0) (h1 : ¬ t.val % 8 = 7) (y : S1x256x4096.Idx) :
    (stAt0 m c t.val t.isLt acc).1 y = row (iblk m c 0 t) (iblk m c 1 t) (y 1) (y 2) := by
  rw [stAt0_B m c t acc h0 h1]
  dsimp only
  unfold out0_B_8
  frame_out
  canon_tiles x h
  · rw [idx_eq x]
    exact (pay18_at _ _ _ _).trans (row_of 128 _ _ _ _ _ _ _ h1 h2)
  · rw [idx_eq x]
    exact (pay5_at _ _ _ _).trans (row_of 0 _ _ _ _ _ _ _ (h1.trans (Nat.zero_add _).symm) h2)

theorem outC (h0 : ¬ t.val % 8 = 0) (h1 : t.val % 8 = 7) (y : S1x256x4096.Idx) :
    (stAt0 m c t.val t.isLt acc).1 y = row (iblk m c 0 t) (iblk m c 1 t) (y 1) (y 2) := by
  rw [stAt0_C m c t acc h0 h1]
  dsimp only
  unfold out0_C_8
  frame_out
  canon_tiles x h
  · rw [idx_eq x]
    exact (pay18_at _ _ _ _).trans (row_of 128 _ _ _ _ _ _ _ h1 h2)
  · rw [idx_eq x]
    exact (pay5_at _ _ _ _).trans (row_of 0 _ _ _ _ _ _ _ (h1.trans (Nat.zero_add _).symm) h2)

theorem out_at (y : S1x256x4096.Idx) : (stAt0 m c t.val t.isLt acc).1 y = row (iblk m c 0 t) (iblk m c 1 t) (y 1) (y 2) := by
  by_cases h0 : t.val % 8 = 0
  · exact outA m c t acc h0 (by omega) y
  · by_cases h1 : t.val % 8 = 7
    · exact outC m c t acc h0 h1 y
    · exact outB m c t acc h0 h1 y

theorem last_of (h0 : ¬ t.val % 8 = 0) (h1 : t.val % 8 = 7) (j : Fin 4096) :
    (stAt0 m c t.val t.isLt acc).2.2.2.1 (ix3 0 0 j) = row (iblk m c 0 t) (iblk m c 1 t) 255 j := by
  rw [stAt0_C m c t acc h0 h1]
  dsimp only
  unfold out0_C_11
  frame_out
  exact (pay19_at _ _ _).trans (row_of 128 _ _ _ _ _ _ _ rfl rfl)

end Cert.NormIdeal.Pre
-- ==== Proof.Norm.KernelValue.lean ====
module

public import proofs.«01_k».proof.Proof.Norm.Cases

@[expose] public section

/-! What the pre-norm's arrays end holding, entry by entry: the normed rows, and the last one of each sequence. -/

open Idealize.ShloMosaic Idealize.ShloMosaic.TcCoe Idealize.SL Idealize.SL.Sem

set_option maxRecDepth 16384

noncomputable section

namespace Cert.NormIdeal.Pre
open Cert.NormIdeal Cert.NormIdeal.Gen Cert.NormIdeal.Value Cert.PostSpec

variable (m : (l : Loc nD τ sig) → Buf (Elt Ideal) l) (c : Dev nD)

/-- The residual stream. -/
def hK : FVec Ideal S4x2048x4096 .f32 := m ((c : Thread nD τ).loc main_arg0)

/-- The norm's weights. -/
def gK : FVec Ideal S4096 .f32 := m ((c : Thread nD τ).loc main_arg1)

/-- A normed and weighted token. -/
def xnK (b : Fin 4) (t : Fin 2048) (j : Fin 4096) : EReal := rms (fun k => hK m c (ix3 b t k)) j * gK m c (ix1 j)

theorem idx : ∀ t : Fin cfg0.N, win0_0.index t = ![t.val / 8, t.val % 8, 0] ∧ win0_1.index t = ![0, 0, 0] :=
  (by decide +kernel : ∀ t : Fin grid0.N, _)

theorem v16_at (j : Fin 4096) : V m c main_v16 (ix3 0 0 j) = gK m c (ix1 j) := by
  change StableHlo.after hostOps0 (fun b => m (c, b)) _ _ = _
  after_results
  simp only [StableHlo.TRef.ofBuf, StableHlo.TRef.toBuf, cast_eq]
  pointwise []
  rfl

theorem t_lt (t : Fin cfg0.N) : t.val < 32 := lt_of_lt_of_eq t.isLt N_0

theorem h_at (t : Fin cfg0.N) (r : Fin 256) (k : Fin 4096) :
    iblk m c 0 t (ix3 0 r k) = hK m c (ix3 (⟨t.val / 8, by have := t_lt t; omega⟩ : Fin 4) (⟨t.val % 8 * 256 + r.val, by omega⟩ : Fin 2048) k) := by
  unfold hK
  blk_ext [iblk, V, idx t]

theorem g_at (t : Fin cfg0.N) (j : Fin 4096) : iblk m c 1 t (ix3 0 0 j) = gK m c (ix1 j) := by
  rw [← v16_at]
  blk_ext [iblk, idx t]

theorem row_at (t : Fin cfg0.N) (r : Fin 256) (j : Fin 4096) (b : Fin 4) (s : Fin 2048) (hb : t.val / 8 = b.val)
    (hs : t.val % 8 * 256 + r.val = s.val) : row (iblk m c 0 t) (iblk m c 1 t) r j = xnK m c b s j := by
  unfold row xnK
  rw [g_at]
  refine congrArg (fun v => rms v j * gK m c (ix1 j)) (funext fun k => (h_at m c t r k).trans ?_)
  exact congrArg₂ (fun b s => hK m c (ix3 b s k)) (Fin.ext hb) (Fin.ext hs)

/-- The fold at a point is the point's contents over something. -/
theorem fold_at (n : ℕ) (hn : 0 + n < cfg0.N) :
    ∃ acc : Held, Pipeline.accAt (fun n h => stAt0 m c n h junk0) (stAt0 m c) 0 n hn = stAt0 m c n (by omega) acc := by
  cases n with
  | zero => exact ⟨junk0, rfl⟩
  | succ n =>
    have e : ∀ k (hk : k = n + 1) (hk' : k < cfg0.N) (acc : Held), stAt0 m c k hk' acc = stAt0 m c (n + 1) (by omega) acc := by
      intro k hk _ _
      subst hk
      rfl
    exact ⟨_, (Pipeline.accAt_succ ..).trans (e _ (Nat.zero_add _) _ _)⟩

theorem xn_at (b : Fin 4) (s : Fin 2048) (j : Fin 4096) : G8 m c (ix3 b s j) = xnK m c b s j := by
  have hp : pt8Of (ix3 b s j) = b.val * 8 + s.val / 256 := by
    show 8 * (b.val / 1 - 0) + 1 * (s.val / 256 - 0) + 1 * (j.val / 4096 - 0) = _
    omega
  have hN : pt8Of (ix3 b s j) < cfg0.N := by rw [hp, show cfg0.N = 32 from N_0]; omega
  have hl : loc8Of (ix3 b s j) = ix3 0 (⟨s.val % 256, by omega⟩ : Fin 256) j := by
    funext a
    match a with
    | ⟨0, _⟩ => exact Fin.ext (Nat.mod_one _)
    | ⟨1, _⟩ => rfl
    | ⟨2, _⟩ => exact Fin.ext (Nat.mod_eq_of_lt j.isLt)
  unfold G8
  rw [dif_pos hN, hl]
  obtain ⟨acc, e⟩ := fold_at m c (pt8Of (ix3 b s j)) (by omega)
  rw [e]
  refine (out_at m c ⟨pt8Of (ix3 b s j), hN⟩ acc _).trans (row_at m c _ _ _ b s ?_ ?_)
  · show pt8Of (ix3 b s j) / 8 = _
    omega
  · show pt8Of (ix3 b s j) % 8 * 256 + s.val % 256 = _
    omega

theorem last_at (b : Fin 4) (z : Fin 1) (j : Fin 4096) : G11 m c (ix3 b z j) = xnK m c b ⟨2047, by omega⟩ j := by
  have hp : pt11Of (ix3 b z j) = b.val * 8 + 7 := by
    show 8 * (1 * (b.val / 1 - 0) + 1 * (z.val / 1 - 0) + 1 * (j.val / 4096 - 0)) + 7 = _
    omega
  have hN : pt11Of (ix3 b z j) < cfg0.N := by rw [hp, show cfg0.N = 32 from N_0]; omega
  have hl : loc11Of (ix3 b z j) = ix3 0 0 j := by
    funext a
    match a with
    | ⟨0, _⟩ => exact Fin.ext (Nat.mod_one _)
    | ⟨1, _⟩ => exact Fin.ext (Nat.mod_one _)
    | ⟨2, _⟩ => exact Fin.ext (Nat.mod_eq_of_lt j.isLt)
  unfold G11
  rw [dif_pos hN, hl]
  obtain ⟨acc, e⟩ := fold_at m c (pt11Of (ix3 b z j)) (by omega)
  rw [e]
  refine (last_of m c ⟨pt11Of (ix3 b z j), hN⟩ acc (by show ¬ pt11Of (ix3 b z j) % 8 = 0; omega)
    (by show pt11Of (ix3 b z j) % 8 = 7; omega) j).trans (row_at m c _ _ _ b _ ?_ ?_)
  · show pt11Of (ix3 b z j) / 8 = _
    omega
  · show pt11Of (ix3 b z j) % 8 * 256 + 255 = 2047
    omega

end Cert.NormIdeal.Pre
-- ==== Proof.Norm.RefValue.lean ====
module

public import proofs.«01_k».proof.Proof.Gen.NormRefIdeal.Run
public import proofs.«01_k».proof.Proof.Post.Spec
public import Idealize.ShloMosaic.Lib.Pointwise

@[expose] public section

/-! The pre-norm's reference, entry by entry. -/

open Idealize.ShloMosaic Idealize.ShloMosaic.TcCoe Idealize.SL Idealize.SL.Sem Idealize.ShloMosaic.StableHlo

set_option maxRecDepth 16384

noncomputable section

namespace Cert.NormRefIdeal.Pre
open Cert.NormRefIdeal Cert.NormRefIdeal.Gen Cert.NormRefIdeal.Value Cert.PostSpec

variable (h : FVec Ideal S4x2048x4096 .f32) (g : FVec Ideal S4096 .f32)

/-- The rows normed and weighted. -/
def normed : FVec Ideal S4x2048x4096 .f32 :=
  mulf (mulf h (broadcastInDim S4x2048x4096 ![0, 1, 2] bcast_S4x2048x1_S4x2048x4096_0_1_2
    (Host.rsqrt (addf (Host.divf (broadcastInDim S4x2048x1 ![0, 1] bcast_S4x2048_S4x2048x1_0_1
      (Host.reduceAdd (mulf h h) (constant S_ .f32 0x00000000#32) reducesTo_S4x2048x4096_S4x2048_d2 h_S_))
      (broadcastInDim S4x2048x1 ![] bcast_S_S4x2048x1 (constant S_ .f32 0x45800000#32)))
      (broadcastInDim S4x2048x1 ![] bcast_S_S4x2048x1 (constant S_ .f32 0x358637BD#32))))))
    (broadcastInDim S4x2048x4096 ![0, 1, 2] bcast_S1x1x4096_S4x2048x4096_0_1_2
      (broadcastInDim S1x1x4096 ![2] bcast_S4096_S1x1x4096_2 g))

/-- The last rows. -/
def lastRows : FVec Ideal S4x1x4096 .f32 :=
  broadcastInDim S4x1x4096 ![0, 2] bcast_S4x4096_S4x1x4096_0_2
    (shapeCast _ (extractStridedSlice S4x1x4096 ![0, 2047, 0] (normed h g) slices_S4x2048x4096_S4x1x4096_0_2047_0) shapeCasts_S4x1x4096_S4x4096)

theorem normed_at (b : Fin 4) (t : Fin 2048) (j : Fin 4096) :
    normed h g (ix3 b t j) = rms (fun k => h (ix3 b t k)) j * g (ix1 j) := by
  pointwise [normed]
  rfl

theorem cast_at (b : Fin 4) (t : Fin 2048) (j : Fin 4096) :
    truncf .bf16 (normed h g) bitsLt_bf16_f32 (ix3 b t j) = rms (fun k => h (ix3 b t k)) j * g (ix1 j) := by
  rw [← normed_at]
  generalize normed h g = y
  pointwise []

theorem last_at (b : Fin 4) (z : Fin 1) (j : Fin 4096) :
    lastRows h g (ix3 b z j) = rms (fun k => h (ix3 b ⟨2047, by omega⟩ k)) j * g (ix1 j) := by
  rw [← normed_at]
  unfold lastRows
  generalize normed h g = y
  pointwise []

end Cert.NormRefIdeal.Pre
-- ==== Proof.Norm.Claims.lean ====
module

public import proofs.«01_k».proof.Defs
public import proofs.«01_k».proof.Proof.Norm.KernelValue
public import proofs.«01_k».proof.Proof.Norm.RefValue
public import Idealize.ShloMosaic.Adequacy
public import Idealize.ShloMosaic.Init

@[expose] public section

/-! The claims about the pre-norm: the reference's frame, and both results compared entry by entry. -/

open Idealize.ShloMosaic Idealize.ShloMosaic.TcCoe Idealize.SL Idealize.SL.Sem Idealize.ShloMosaic.StableHlo

set_option maxRecDepth 16384

noncomputable section

namespace Cert.Proof.Pre

theorem frame_reference : Cert.quiescent_NormRefIdeal := fun m ρ _ =>
  (θ_run Cert.NormRefIdeal.defs _ _).mono (fun r h => ⟨fun c => (h c).2.2,
      Idealize.ShloMosaic.sem_eq_zero_of_no_sems (by decide) r.2⟩)
    (Cert.NormRefIdeal.Value.run (F := Ideal) m ρ)

open Cert.NormIdeal Cert.NormIdeal.Gen Cert.NormIdeal.Value Cert.NormIdeal.Pre in
theorem algebraic : Cert.algebraic_NormIdeal_NormRefIdeal := by
  intro m ρ m' ρ' _ hag
  refine ⟨fun d => G8 m d, fun d => G11 m d,
    (θ_run Cert.NormIdeal.defs _ _).mono (fun r h c => ⟨(h c).1, (h c).2.2.2⟩) (Cert.NormIdeal.Value.run (F := Ideal) m ρ),
    (θ_run Cert.NormRefIdeal.defs _ _).mono (fun r h c => ⟨(h c).1.trans (funext fun i => ?_), (h c).2.1.trans (funext fun i => ?_), (h c).2.2⟩)
      (Cert.NormRefIdeal.Value.run (F := Ideal) m' ρ')⟩
  · obtain ⟨b, s, j, rfl⟩ : ∃ (b : Fin 4) (s : Fin 2048) (j : Fin 4096), i = ix3 b s j := ⟨_, _, _, eq_ix3 i⟩
    have g0 := (hag c).1
    have g1 := (hag c).2.1
    rw [g0, g1]
    exact (Cert.NormRefIdeal.Pre.cast_at _ _ b s j).trans (xn_at m c b s j).symm
  · obtain ⟨b, z, j, rfl⟩ : ∃ (b : Fin 4) (z : Fin 1) (j : Fin 4096), i = ix3 b z j := ⟨_, _, _, eq_ix3 i⟩
    have g0 := (hag c).1
    have g1 := (hag c).2.1
    rw [g0, g1]
    exact (Cert.NormRefIdeal.Pre.last_at _ _ b z j).trans (last_at m c b z j).symm

end Cert.Proof.Pre
-- ==== Proof.InS.KernelValue.lean ====
module

public import proofs.«01_k».proof.Proof.Gen.InSIdeal.Frame
public import Idealize.ShloMosaic.Lib.Pipeline.ReadBack
public import Idealize.ShloMosaic.Lib.Pipeline.ValueKit
public import Idealize.ShloMosaic.Lib.StableHlo.Run
public import Idealize.ShloMosaic.Lib.Pointwise

@[expose] public section

/-! The input projection of the sample batch: the tokens are padded to eight a sequence, each row is multiplied by the weights,
    and the padded rows are dropped. -/

open Idealize.ShloMosaic Idealize.ShloMosaic.TcCoe Idealize.SL Idealize.SL.Sem Idealize.ShloMosaic.StableHlo

set_option maxRecDepth 16384

noncomputable section

namespace Cert.InSIdeal.Proj
open Cert.InSIdeal Cert.InSIdeal.Gen

variable (m : (l : Loc nD τ sig) → Buf (Elt Ideal) l) (c : Dev nD)

/-- The activations. -/
def xK : FVec Ideal S128x4x4096 .f32 := m (c.tc.loc main_arg0)

/-- The weights. -/
def wK : FVec Ideal S4096x14336 .f32 := m (c.tc.loc main_arg1)

/-- The projection of a token to a channel. -/
def projK (b : Fin 128) (t : Fin 4) (j : Fin 14336) : EReal := ∑ k : Fin 4096, xK m c (ix3 b t k) * wK m c (ix2 k j)

theorem pay_at (x : Vec Ideal S1024x4096 .bf16) (w : Vec Ideal S1x4096x512 .f32) (r : Fin 1024) (j : Fin 512) :
    k0_pay2 (F := Ideal) w x (ix2 r j) = ∑ k : Fin 4096, x (ix2 r k) * w (ix3 0 k j) := by
  pointwise [k0_pay2, k0_pay1]

/-- The product that the call computes of the two arrays it is entered with. -/
def product (x : Vec Ideal S1024x4096 .bf16) (w : Vec Ideal S1x4096x14336 .f32) : Vec Ideal S1024x14336 .f32 :=
  fun y => ∑ k : Fin 4096, x (ix2 (y 0) k) * w (ix3 0 k (y 1))

theorem idx : ∀ t : Fin cfg0.N, win0_0.index t = ![0, 0] ∧ win0_1.index t = ![0, 0, t.val] ∧ win0_2.index t = ![0, t.val] :=
  (by decide +kernel : ∀ t : Fin grid0.N, _)

/-- The call leaves the product in its result array. -/
theorem arr : (dats (F := Ideal) m 0 c).arrAt 2 cfg0.N = product (V m c main_v2) (V m c main_v3) := by
  refine (dats m 0 c).arrAt_eq_of_covers 2 _ (by decide +kernel) fun t hf y => ?_
  blk_simp
  rw [after0_2]
  frame_out
  rw [eq_ix2 y]
  refine (pay_at _ _ _ _).trans ?_
  refine Finset.sum_congr rfl fun k _ => ?_
  refine congrArg₂ (· * ·) ?_ ?_
  · blk_simp [iblk]
    refine congrArg (V m c main_v2) ?_
    blk_ext [idx t]
  · blk_simp [iblk]
    refine congrArg (V m c main_v3) ?_
    blk_ext [idx t]

/-- The host's arrays at the launch. -/
theorem V_eq (r : Ref sig .tc) : V m c r = StableHlo.after hostOps0_2 (StableHlo.after hostOps0_1 (StableHlo.after hostOps0 (fun b => m (c, b)))) (Proc.devRef .tc r) := by
  show StableHlo.after _ _ _ = _
  simp only [List.flatten_cons, List.flatten_nil, StableHlo.after_append, List.append_nil]

variable (b : Fin 128) (t : Fin 4) (i : Fin 1024)

theorem v2_at (hi : i.val = b.val * 8 + t.val) (k : Fin 4096) : V m c main_v2 (ix2 i k) = xK m c (ix3 b t k) := by
  rw [V_eq]
  after_results
  simp only [StableHlo.TRef.ofBuf, StableHlo.TRef.toBuf, cast_eq]
  pointwise []
  rw [dif_pos ⟨by omega, by omega⟩]
  exact congrArg (xK m c) (congrArg₂ (fun b t => ix3 b t k) (Fin.ext (by show i.val / 8 = b.val; omega)) (Fin.ext (by show i.val % 8 = t.val; omega)))

theorem v3_at (k : Fin 4096) (j : Fin 14336) : V m c main_v3 (ix3 0 k j) = wK m c (ix2 k j) := by
  rw [V_eq]
  after_results
  pointwise []
  rfl

/-- The result array at an entry. -/
theorem result_at (hi : i.val = b.val * 8 + t.val) (j : Fin 14336) :
    (dats (F := Ideal) m 0 c).arrAt 2 cfg0.N (ix2 i j) = projK m c b t j := by
  rw [arr]
  exact Finset.sum_congr (M := EReal) rfl fun k _ => congrArg₂ (HMul.hMul (α := EReal) (β := EReal)) (v2_at m c b t i hi k) (v3_at m c k j)

/-- What the lines after the call leave in the tokens' array. -/
def tokK : Buf (Elt Ideal) ((c : Thread nD τ).loc main_v6) :=
  Pipeline.afterTail₀ cfgs (dats (F := Ideal) m) 0 (V0 m) [hostOps1] c main_v6

/-- What they leave in the last token's array. -/
def lastK : Buf (Elt Ideal) ((c : Thread nD τ).loc main_v8) :=
  Pipeline.afterTail₀ cfgs (dats (F := Ideal) m) 0 (V0 m) [hostOps1] c main_v8

/-- The tokens' channels, an entry of them. -/
theorem tok_at (j : Fin 14336) : tokK m c (ix3 b t j) = projK m c b t j := by
  rw [← result_at m c b t ⟨b.val * 8 + t.val, by omega⟩ rfl]
  have e := Pipeline.withArrays_arr (cfgs 0).spec (by decide) c (V0 m c) (fun w => (dats (F := Ideal) m 0 c).arrAt w (cfgs 0).N) 2
  change StableHlo.after hostOps1 (Pipeline.withArrays (cfgs 0).spec c (V0 m c) fun w => (dats (F := Ideal) m 0 c).arrAt w (cfgs 0).N) _ _ = _
  after_results
  simp only [StableHlo.TRef.ofBuf, StableHlo.TRef.toBuf, cast_eq]
  revert e
  generalize (dats (F := Ideal) m 0 c).arrAt 2 cfg0.N = y
  intro e
  pointwise []
  exact congrFun e _

/-- The last token's channels, an entry of them. -/
theorem last_at (j : Fin 4608) : lastK m c (ix2 b j) = projK m c b 3 ⟨2048 + j.val, by omega⟩ := by
  rw [← result_at m c b 3 ⟨b.val * 8 + 3, by omega⟩ rfl]
  have e := Pipeline.withArrays_arr (cfgs 0).spec (by decide) c (V0 m c) (fun w => (dats (F := Ideal) m 0 c).arrAt w (cfgs 0).N) 2
  change StableHlo.after hostOps1 (Pipeline.withArrays (cfgs 0).spec c (V0 m c) fun w => (dats (F := Ideal) m 0 c).arrAt w (cfgs 0).N) _ _ = _
  after_results
  simp only [StableHlo.TRef.ofBuf, StableHlo.TRef.toBuf, cast_eq]
  revert e
  generalize (dats (F := Ideal) m 0 c).arrAt 2 cfg0.N = y
  intro e
  pointwise []
  exact congrFun e _

end Cert.InSIdeal.Proj
-- ==== Proof.InS.Claims.lean ====
module

public import proofs.«01_k».proof.Defs
public import proofs.«01_k».proof.Proof.InS.KernelValue
public import proofs.«01_k».proof.Proof.Gen.InSRefIdeal.Run
public import Idealize.ShloMosaic.Adequacy
public import Idealize.ShloMosaic.Init

@[expose] public section

/-! The claims about the sample batch's input projection: the reference at an entry, its frame, and both results compared. -/

open Idealize.ShloMosaic Idealize.ShloMosaic.TcCoe Idealize.SL Idealize.SL.Sem Idealize.ShloMosaic.StableHlo

set_option maxRecDepth 16384

noncomputable section

namespace Cert.InSRefIdeal.Proj
open Cert.InSRefIdeal Cert.InSRefIdeal.Gen

variable (x : FVec Ideal S128x4x4096 .f32) (w : FVec Ideal S4096x14336 .f32)

/-- The reference's projection of all tokens. -/
def zT : FVec Ideal S128x4x14336 .f32 := Host.dotGeneral dot_S128x4x4096_S4096x14336_S128x4x14336_2_0_01_1_n_n none x w

theorem zT_at (b : Fin 128) (t : Fin 4) (j : Fin 14336) : zT x w (ix3 b t j) = ∑ k : Fin 4096, x (ix3 b t k) * w (ix2 k j) := by
  pointwise [zT]

/-- The last token's channels, at an entry. -/
theorem last_at (b : Fin 128) (j : Fin 4608) :
    shapeCast S128x4608 (extractStridedSlice S128x1x4608 ![0, 3, 0] (extractStridedSlice S128x4x4608 ![0, 0, 2048] (zT x w)
      slices_S128x4x14336_S128x4x4608_0_0_2048) slices_S128x4x4608_S128x1x4608_0_3_0) shapeCasts_S128x1x4608_S128x4608 (ix2 b j) =
      ∑ k : Fin 4096, x (ix3 b 3 k) * w (ix2 k ⟨2048 + j.val, by omega⟩) := by
  rw [← zT_at]
  generalize zT x w = y
  pointwise []

end Cert.InSRefIdeal.Proj

namespace Cert.Proof.ProjS

theorem frame_reference : Cert.quiescent_InSRefIdeal := fun m ρ _ =>
  (θ_run Cert.InSRefIdeal.defs _ _).mono (fun r h => ⟨fun c => (h c).2.2,
      Idealize.ShloMosaic.sem_eq_zero_of_no_sems (by decide) r.2⟩)
    (Cert.InSRefIdeal.Value.run (F := Ideal) m ρ)

open Cert.InSIdeal Cert.InSIdeal.Gen Cert.InSIdeal.Proj in
theorem algebraic : Cert.algebraic_InSIdeal_InSRefIdeal := by
  intro m ρ m' ρ' _ hag
  refine ⟨fun d => tokK m d, fun d => lastK m d,
    (θ_run Cert.InSIdeal.defs _ _).mono (fun r h c => ?_) (run_main (F := Ideal) m ρ),
    (θ_run Cert.InSRefIdeal.defs _ _).mono (fun r h c => ⟨(h c).1.trans (funext fun i => ?_), (h c).2.1.trans (funext fun i => ?_), (h c).2.2⟩)
      (Cert.InSRefIdeal.Value.run (F := Ideal) m' ρ')⟩
  · exact ⟨(h c).2 main_v6 (Pipeline.mem_restRefs_of main_v6 (by decide) (by decide)),
      (h c).2 main_v8 (Pipeline.mem_restRefs_of main_v8 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩
  · obtain ⟨b, t, k, rfl⟩ : ∃ (b : Fin 128) (t : Fin 4) (k : Fin 14336), i = ix3 b t k := ⟨_, _, _, eq_ix3 i⟩
    obtain ⟨g0, g1⟩ := hag c
    rw [g0, g1]
    exact (Cert.InSRefIdeal.Proj.zT_at _ _ b t k).trans (tok_at m c b t k).symm
  · obtain ⟨b, k, rfl⟩ : ∃ (b : Fin 128) (k : Fin 4608), i = ix2 b k := ⟨_, _, eq_ix2 i⟩
    obtain ⟨g0, g1⟩ := hag c
    rw [g0, g1]
    exact (Cert.InSRefIdeal.Proj.last_at _ _ b k).trans (last_at m c b k).symm

end Cert.Proof.ProjS
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_written
public import proofs.«01_k».proof.Proof.Gen.KernelIdeal.Value
public import proofs.«01_k».proof.Proof.Gen.ReferenceIdeal.Run
public import proofs.«01_k».proof.Proof.Lru.Claims
public import proofs.«01_k».proof.Proof.Gen.Post
public import proofs.«01_k».proof.Proof.Gen.Post.Frame
public import proofs.«01_k».proof.Proof.Gen.PostIdeal
public import proofs.«01_k».proof.Proof.Gen.PostIdeal.Frame
public import proofs.«01_k».proof.Proof.Gen.PostRefIdeal
public import proofs.«01_k».proof.Proof.Gen.PostRefIdeal.Run
public import proofs.«01_k».proof.Proof.Post.Claims
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InRefIdeal
public import proofs.«01_k».proof.Proof.Gen.InRefIdeal.Run
public import proofs.«01_k».proof.Proof.In.Claims
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Norm.Claims
public import proofs.«01_k».proof.Proof.Gen.InS
public import proofs.«01_k».proof.Proof.Gen.InS.Frame
public import proofs.«01_k».proof.Proof.Gen.InSIdeal
public import proofs.«01_k».proof.Proof.Gen.InSIdeal.Frame
public import proofs.«01_k».proof.Proof.Gen.InSRefIdeal
public import proofs.«01_k».proof.Proof.Gen.InSRefIdeal.Run
public import proofs.«01_k».proof.Proof.InS.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Post.Gen.facts,
  Cert.PostIdeal.Gen.facts, Cert.PostRefIdeal.Gen.facts, Cert.In.Gen.facts, Cert.InIdeal.Gen.facts, Cert.InRefIdeal.Gen.facts, Cert.Norm.Gen.facts,
  Cert.NormIdeal.Gen.facts, Cert.NormRefIdeal.Gen.facts, Cert.InS.Gen.facts, Cert.InSIdeal.Gen.facts,
  Cert.InSRefIdeal.Gen.facts, Cert.On_written.Gen.facts,
  fun m ρ _ => Cert.Kernel.Gen.frame m ρ, fun m ρ _ => Cert.KernelIdeal.Gen.frame m ρ, Cert.Proof.Lru.frame_reference,
  fun m ρ _ => Cert.Post.Gen.frame m ρ, fun m ρ _ => Cert.PostIdeal.Gen.frame m ρ, Cert.Proof.Post.frame_reference,
  fun m ρ _ => Cert.In.Gen.frame m ρ, fun m ρ _ => Cert.InIdeal.Gen.frame m ρ, Cert.Proof.Proj.frame_reference,
  fun m ρ _ => Cert.Norm.Gen.frame m ρ, fun m ρ _ => Cert.NormIdeal.Gen.frame m ρ, Cert.Proof.Pre.frame_reference,
  fun m ρ _ => Cert.InS.Gen.frame m ρ, fun m ρ _ => Cert.InSIdeal.Gen.frame m ρ, Cert.Proof.ProjS.frame_reference, trivial,
  Cert.Proof.Lru.algebraic, trivial, Cert.Proof.Post.algebraic, trivial, Cert.Proof.Proj.algebraic, trivial,
  Cert.Proof.Pre.algebraic, trivial, Cert.Proof.ProjS.algebraic⟩

end Cert.Proof

end
